-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S32x1x2048 : Shape := ⟨3, ![32, 1, 2048]⟩
abbrev S64x2048 : Shape := ⟨2, ![64, 2048]⟩
abbrev S64 : Shape := ⟨1, ![64]⟩
abbrev S64x2048x2048 : Shape := ⟨3, ![64, 2048, 2048]⟩
abbrev S64x1024x2048 : Shape := ⟨3, ![64, 1024, 2048]⟩
abbrev S_ : Shape := ⟨0, ![]⟩

class Facts : Prop where
  bcast_S_S32x1x2048 : S_.BroadcastsInDim S32x1x2048 (![] : Fin 0 → Fin S32x1x2048.rank)
  bcast_S_S64x2048 : S_.BroadcastsInDim S64x2048 (![] : Fin 0 → Fin S64x2048.rank)
  bcast_S_S64 : S_.BroadcastsInDim S64 (![] : Fin 0 → Fin S64.rank)

variable [Facts]

def fn {F : FTy → Type} [FloatOps F] (main_arg0 : FVec F S32x1x2048 .f32) (main_arg1 : FVec F S64x2048 .f32) (main_arg2 : FVec F S64 .f32) (main_arg3 : FVec F S64x2048x2048 .f32) (main_arg4 : FVec F S64x2048 .f32) (main_arg5 : FVec F S64x1024x2048 .f32) (main_arg6 : FVec F S64x2048 .f32) : IVec S32x1x2048 1 × IVec S64x2048 1 × IVec S64 1 :=
  let main_v0 : FVec F S32x1x2048 .f32 := Host.absf main_arg0
  let main_cst : FVec F S_ .f32 := constant S_ .f32 0x7F800000#32
  let main_v1 : FVec F S32x1x2048 .f32 := broadcastInDim S32x1x2048 ![] bcast_S_S32x1x2048 main_cst
  let main_v2 : IVec S32x1x2048 1 := cmpf .olt main_v0 main_v1
  let main_v3 : FVec F S64x2048 .f32 := Host.absf main_arg1
  let main_cst_0 : FVec F S_ .f32 := constant S_ .f32 0x7F800000#32
  let main_v4 : FVec F S64x2048 .f32 := broadcastInDim S64x2048 ![] bcast_S_S64x2048 main_cst_0
  let main_v5 : IVec S64x2048 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  (main_v2, main_v5, main_v8)
-- ==== Kernel.lean ====
abbrev S32x1x2048 : Shape := ⟨3, ![32, 1, 2048]⟩
abbrev S64x2048 : Shape := ⟨2, ![64, 2048]⟩
abbrev S64 : Shape := ⟨1, ![64]⟩
abbrev S64x2048x2048 : Shape := ⟨3, ![64, 2048, 2048]⟩
abbrev S64x1024x2048 : Shape := ⟨3, ![64, 1024, 2048]⟩
abbrev S32x2048 : Shape := ⟨2, ![32, 2048]⟩
abbrev S1x64 : Shape := ⟨2, ![1, 64]⟩
abbrev S1024x512 : Shape := ⟨2, ![1024, 512]⟩
abbrev S_ : Shape := ⟨0, ![]⟩
abbrev S64x1x2048 : Shape := ⟨3, ![64, 1, 2048]⟩
abbrev S1x2048x1024 : Shape := ⟨3, ![1, 2048, 1024]⟩
abbrev S1x1x1024 : Shape := ⟨3, ![1, 1, 1024]⟩
abbrev S1x512x2048 : Shape := ⟨3, ![1, 512, 2048]⟩
abbrev S1x1x2048 : Shape := ⟨3, ![1, 1, 2048]⟩
abbrev S32x64 : Shape := ⟨2, ![32, 64]⟩
abbrev S32 : Shape := ⟨1, ![32]⟩
abbrev S32x1 : Shape := ⟨2, ![32, 1]⟩
abbrev S2048x1024 : Shape := ⟨2, ![2048, 1024]⟩
abbrev S32x1024 : Shape := ⟨2, ![32, 1024]⟩
abbrev S1x1024 : Shape := ⟨2, ![1, 1024]⟩
abbrev S32x512 : Shape := ⟨2, ![32, 512]⟩
abbrev S512x2048 : Shape := ⟨2, ![512, 2048]⟩
abbrev S1x2048 : Shape := ⟨2, ![1, 2048]⟩

abbrev nBuf : Space → Nat
  | .hbm => 19
  | .vmem => 14
  | .smem => 0
  | _ => 0

abbrev bufTy : (tb : Table) → Fin (tcTables nBuf tb) → BufTy
  | .hbm, ⟨0, _⟩ => ⟨S32x1x2048, .f32⟩
  | .hbm, ⟨1, _⟩ => ⟨S64x2048, .f32⟩
  | .hbm, ⟨2, _⟩ => ⟨S64, .f32⟩
  | .hbm, ⟨3, _⟩ => ⟨S64x2048x2048, .f32⟩
  | .hbm, ⟨4, _⟩ => ⟨S64x2048, .f32⟩
  | .hbm, ⟨5, _⟩ => ⟨S64x1024x2048, .f32⟩
  | .hbm, ⟨6, _⟩ => ⟨S64x2048, .f32⟩
  | .hbm, ⟨7, _⟩ => ⟨S32x2048, .f32⟩
  | .hbm, ⟨8, _⟩ => ⟨S1x64, .f32⟩
  | .hbm, ⟨9, _⟩ => ⟨S1024x512, .i32⟩
  | .hbm, ⟨10, _⟩ => ⟨S1024x512, .i32⟩
  | .hbm, ⟨11, _⟩ => ⟨S_, .i32⟩
  | .hbm, ⟨12, _⟩ => ⟨S1024x512, .i32⟩
  | .hbm, ⟨13, _⟩ => ⟨S1024x512, .i32⟩
  | .hbm, ⟨14, _⟩ => ⟨S1024x512, .i1⟩
  | .hbm, ⟨15, _⟩ => ⟨S1024x512, .bf16⟩
  | .hbm, ⟨16, _⟩ => ⟨S64x1x2048, .f32⟩
  | .hbm, ⟨17, _⟩ => ⟨S64x1x2048, .f32⟩
  | .hbm, ⟨18, _⟩ => ⟨S32x2048, .f32⟩
  | .local _ .vmem, ⟨0, _⟩ => ⟨S32x2048, .f32⟩
  | .local _ .vmem, ⟨1, _⟩ => ⟨S64x2048, .f32⟩
  | .local _ .vmem, ⟨2, _⟩ => ⟨S1x64, .f32⟩
  | .local _ .vmem, ⟨3, _⟩ => ⟨S1x2048x1024, .f32⟩
  | .local _ .vmem, ⟨4, _⟩ => ⟨S1x2048x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x2048, .f32⟩
  | .local _ .vmem, ⟨8, _⟩ => ⟨S1x512x2048, .f32⟩
  | .local _ .vmem, ⟨9, _⟩ => ⟨S1x1x2048, .f32⟩
  | .local _ .vmem, ⟨10, _⟩ => ⟨S1x1x2048, .f32⟩
  | .local _ .vmem, ⟨11, _⟩ => ⟨S1024x512, .bf16⟩
  | .local _ .vmem, ⟨12, _⟩ => ⟨S32x2048, .f32⟩
  | .local _ .vmem, ⟨13, _⟩ => ⟨S32x64, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg0 : BitVec 32 := BitVec.ofNat 32 (i 0).val
  let c0_i32_31 : BitVec 32 := 0#32
  let v53 : BitVec 1 := Scalar.cmpi .eq arg0 c0_i32_31
  let arg1 : BitVec 32 := BitVec.ofNat 32 (i 1).val
  let c0_i32_32 : BitVec 32 := 0#32
  let v54 : BitVec 1 := Scalar.cmpi .eq arg1 c0_i32_32
  let v55 : BitVec 1 := Scalar.andi v53 v54
  let v56 : BitVec 32 := Scalar.extui v55
  let c0_i32_33 : BitVec 32 := 0#32
  let v57 : BitVec 1 := Scalar.cmpi .ne v56 c0_i32_33
  v57

def k0_cond3 (i : grid0.Coords) : BitVec 1 :=
  let arg0 : BitVec 32 := BitVec.ofNat 32 (i 0).val
  let c0_i32_34 : BitVec 32 := 0#32
  let v58 : BitVec 1 := Scalar.cmpi .ne arg0 c0_i32_34
  let arg1 : BitVec 32 := BitVec.ofNat 32 (i 1).val
  let c0_i32_35 : BitVec 32 := 0#32
  let v59 : BitVec 1 := Scalar.cmpi .ne arg1 c0_i32_35
  let v60 : BitVec 1 := Scalar.ori v58 v59
  let v61 : BitVec 32 := Scalar.extui v60
  let c0_i32_36 : BitVec 32 := 0#32
  let v62 : BitVec 1 := Scalar.cmpi .ne v61 c0_i32_36
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S32x1x2048 : Shape := ⟨3, ![32, 1, 2048]⟩
abbrev S64x2048 : Shape := ⟨2, ![64, 2048]⟩
abbrev S64 : Shape := ⟨1, ![64]⟩
abbrev S64x2048x2048 : Shape := ⟨3, ![64, 2048, 2048]⟩
abbrev S64x1024x2048 : Shape := ⟨3, ![64, 1024, 2048]⟩
abbrev S32x2048 : Shape := ⟨2, ![32, 2048]⟩
abbrev S2048x64 : Shape := ⟨2, ![2048, 64]⟩
abbrev S32x64 : Shape := ⟨2, ![32, 64]⟩
abbrev S1x64 : Shape := ⟨2, ![1, 64]⟩
abbrev S32x8 : Shape := ⟨2, ![32, 8]⟩
abbrev S_ : Shape := ⟨0, ![]⟩
abbrev S32 : Shape := ⟨1, ![32]⟩
abbrev S32x1 : Shape := ⟨2, ![32, 1]⟩
abbrev S32x8x1 : Shape := ⟨3, ![32, 8, 1]⟩
abbrev S32x8x2 : Shape := ⟨3, ![32, 8, 2]⟩
abbrev S1x32x2048 : Shape := ⟨3, ![1, 32, 2048]⟩
abbrev S64x32x2048 : Shape := ⟨3, ![64, 32, 2048]⟩
abbrev S64x1x2048 : Shape := ⟨3, ![64, 1, 2048]⟩
abbrev S64x32x1024 : Shape := ⟨3, ![64, 32, 1024]⟩
abbrev S64x32x1x2048 : Shape := ⟨4, ![64, 32, 1, 2048]⟩
abbrev S64x32 : Shape := ⟨2, ![64, 32]⟩
abbrev S64x32x1 : Shape := ⟨3, ![64, 32, 1]⟩
abbrev S64x32x1x1 : Shape := ⟨4, ![64, 32, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S32x1x2048, .f32⟩
  | .hbm, ⟨1, _⟩ => ⟨S64x2048, .f32⟩
  | .hbm, ⟨2, _⟩ => ⟨S64, .f32⟩
  | .hbm, ⟨3, _⟩ => ⟨S64x2048x2048, .f32⟩
  | .hbm, ⟨4, _⟩ => ⟨S64x2048, .f32⟩
  | .hbm, ⟨5, _⟩ => ⟨S64x1024x2048, .f32⟩
  | .hbm, ⟨6, _⟩ => ⟨S64x2048, .f32⟩
  | .hbm, ⟨7, _⟩ => ⟨S32x2048, .f32⟩
  | .hbm, ⟨8, _⟩ => ⟨S2048x64, .f32⟩
  | .hbm, ⟨9, _⟩ => ⟨S32x64, .f32⟩
  | .hbm, ⟨10, _⟩ => ⟨S1x64, .f32⟩
  | .hbm, ⟨11, _⟩ => ⟨S32x64, .f32⟩
  | .hbm, ⟨12, _⟩ => ⟨S32x64, .f32⟩
  | .hbm, ⟨13, _⟩ => ⟨S32x8, .f32⟩
  | .hbm, ⟨14, _⟩ => ⟨S32x8, .i32⟩
  | .hbm, ⟨15, _⟩ => ⟨S_, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32x1, .f32⟩
  | .hbm, ⟨21, _⟩ => ⟨S32x8, .f32⟩
  | .hbm, ⟨22, _⟩ => ⟨S32x8, .f32⟩
  | .hbm, ⟨23, _⟩ => ⟨S32x8, .f32⟩
  | .hbm, ⟨24, _⟩ => ⟨S_, .f32⟩
  | .hbm, ⟨25, _⟩ => ⟨S32, .f32⟩
  | .hbm, ⟨26, _⟩ => ⟨S32x1, .f32⟩
  | .hbm, ⟨27, _⟩ => ⟨S32x8, .f32⟩
  | .hbm, ⟨28, _⟩ => ⟨S32x8, .f32⟩
  | .hbm, ⟨29, _⟩ => ⟨S_, .f32⟩
  | .hbm, ⟨30, _⟩ => ⟨S32x64, .f32⟩
  | .hbm, ⟨31, _⟩ => ⟨S32, .i32⟩
  | .hbm, ⟨32, _⟩ => ⟨S32x1, .i32⟩
  | .hbm, ⟨33, _⟩ => ⟨S_, .i32⟩
  | .hbm, ⟨34, _⟩ => ⟨S32x1, .i32⟩
  | .hbm, ⟨35, _⟩ => ⟨S32x1, .i1⟩
  | .hbm, ⟨36, _⟩ => ⟨S_, .i32⟩
  | .hbm, ⟨37, _⟩ => ⟨S32x1, .i32⟩
  | .hbm, ⟨38, _⟩ => ⟨S32x1, .i32⟩
  | .hbm, ⟨39, _⟩ => ⟨S32x1, .i32⟩
  | .hbm, ⟨40, _⟩ => ⟨S_, .i32⟩
  | .hbm, ⟨41, _⟩ => ⟨S32x8, .i32⟩
  | .hbm, ⟨42, _⟩ => ⟨S32x8, .i1⟩
  | .hbm, ⟨43, _⟩ => ⟨S_, .i32⟩
  | .hbm, ⟨44, _⟩ => ⟨S32x8, .i32⟩
  | .hbm, ⟨45, _⟩ => ⟨S32x8, .i32⟩
  | .hbm, ⟨46, _⟩ => ⟨S32x8, .i32⟩
  | .hbm, ⟨47, _⟩ => ⟨S32x8, .i32⟩
  | .hbm, ⟨48, _⟩ => ⟨S32x8x1, .i32⟩
  | .hbm, ⟨49, _⟩ => ⟨S32x8x1, .i32⟩
  | .hbm, ⟨50, _⟩ => ⟨S32x8x2, .i32⟩
  | .hbm, ⟨51, _⟩ => ⟨S32x64, .f32⟩
  | .hbm, ⟨52, _⟩ => ⟨S1x32x2048, .f32⟩
  | .hbm, ⟨53, _⟩ => ⟨S64x32x2048, .f32⟩
  | .hbm, ⟨54, _⟩ => ⟨S64x32x2048, .f32⟩
  | .hbm, ⟨55, _⟩ => ⟨S64x1x2048, .f32⟩
  | .hbm, ⟨56, _⟩ => ⟨S64x32x2048, .f32⟩
  | .hbm, ⟨57, _⟩ => ⟨S64x32x2048, .f32⟩
  | .hbm, ⟨58, _⟩ => ⟨S64x32x1024, .f32⟩
  | .hbm, ⟨59, _⟩ => ⟨S64x32x1024, .f32⟩
  | .hbm, ⟨60, _⟩ => ⟨S_, .f32⟩
  | .hbm, ⟨61, _⟩ => ⟨S64x32x1024, .f32⟩
  | .hbm, ⟨62, _⟩ => ⟨S64x32x1024, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S64x32x1024, .f32⟩
  | .hbm, ⟨67, _⟩ => ⟨S64x32x1024, .f32⟩
  | .hbm, ⟨68, _⟩ => ⟨S_, .f32⟩
  | .hbm, ⟨69, _⟩ => ⟨S64x32x1024, .f32⟩
  | .hbm, ⟨70, _⟩ => ⟨S64x32x1024, .f32⟩
  | .hbm, ⟨71, _⟩ => ⟨S_, .f32⟩
  | .hbm, ⟨72, _⟩ => ⟨S64x32x1024, .f32⟩
  | .hbm, ⟨73, _⟩ => ⟨S64x32x1024, .f32⟩
  | .hbm, ⟨74, _⟩ => ⟨S64x32x1024, .f32⟩
  | .hbm, ⟨75, _⟩ => ⟨S64x32x1024, .f32⟩
  | .hbm, ⟨76, _⟩ => ⟨S_, .f32⟩
  | .hbm, ⟨77, _⟩ => ⟨S64x32x1024, .f32⟩
  | .hbm, ⟨78, _⟩ => ⟨S64x32x1024, .f32⟩
  | .hbm, ⟨79, _⟩ => ⟨S_, .f32⟩
  | .hbm, ⟨80, _⟩ => ⟨S64x32x1024, .f32⟩
  | .hbm, ⟨81, _⟩ => ⟨S64x32x1024, .f32⟩
  | .hbm, ⟨82, _⟩ => ⟨S64x32x1024, .f32⟩
  | .hbm, ⟨83, _⟩ => ⟨S_, .f32⟩
  | .hbm, ⟨84, _⟩ => ⟨S64x32x1024, .f32⟩
  | .hbm, ⟨85, _⟩ => ⟨S64x32x1024, .f32⟩
  | .hbm, ⟨86, _⟩ => ⟨S64x32x1024, .f32⟩
  | .hbm, ⟨87, _⟩ => ⟨S64x32x2048, .f32⟩
  | .hbm, ⟨88, _⟩ => ⟨S64x1x2048, .f32⟩
  | .hbm, ⟨89, _⟩ => ⟨S64x32x2048, .f32⟩
  | .hbm, ⟨90, _⟩ => ⟨S64x32x2048, .f32⟩
  | .hbm, ⟨91, _⟩ => ⟨S64x32x1x2048, .f32⟩
  | .hbm, ⟨92, _⟩ => ⟨S64x32, .f32⟩
  | .hbm, ⟨93, _⟩ => ⟨S64x32x1, .f32⟩
  | .hbm, ⟨94, _⟩ => ⟨S64x32x1x1, .f32⟩
  | .hbm, ⟨95, _⟩ => ⟨S64x32x1x2048, .f32⟩
  | .hbm, ⟨96, _⟩ => ⟨S64x32x1x2048, .f32⟩
  | .hbm, ⟨97, _⟩ => ⟨S_, .f32⟩
  | .hbm, ⟨98, _⟩ => ⟨S32x1x2048, .f32⟩
  | .hbm, ⟨99, _⟩ => ⟨S32x2048, .f32⟩
  | _, _ => ⟨S32x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_values : Ref sig .tc := ⟨.hbm, 13, rfl⟩
abbrev main_indices : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_cst_8 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== Proof.Selection.lean ====
/- Choosing lanes of a row by repeated maximum, against a stable sort of the row by decreasing value.
   Pure order theory over one row of 64 extended reals: no program is named here. -/
module

public import Idealize.ShloMosaic.Lib.SortPrefix
public import Mathlib.Data.EReal.Operations
public import Mathlib.Data.Finset.Lattice.Fold

@[expose] public section

noncomputable section

namespace Cert.Proof

open Idealize.ShloMosaic

/-- The lanes at which a row attains its greatest value are not none. -/
theorem argmax_nonempty (w : Fin 64 → EReal) : (Finset.univ.filter fun e => ∀ e', w e' ≤ w e).Nonempty := by
  obtain ⟨e, -, h⟩ := Finset.exists_max_image Finset.univ w ⟨0, Finset.mem_univ _⟩
  exact ⟨e, by simpa using h⟩

/-- The lowest lane at which a row attains its greatest value. -/
def pick (w : Fin 64 → EReal) : Fin 64 := (Finset.univ.filter fun e => ∀ e', w e' ≤ w e).min' (argmax_nonempty w)

/-- The picked lane holds the greatest value. -/
theorem le_pick (w : Fin 64 → EReal) (e : Fin 64) : w e ≤ w (pick w) := by
  have h := Finset.min'_mem _ (argmax_nonempty w)
  exact (Finset.mem_filter.mp h).2 e

/-- No lower lane holds the greatest value. -/
theorem pick_le (w : Fin 64 → EReal) (e : Fin 64) (h : w (pick w) ≤ w e) : pick w ≤ e :=
  Finset.min'_le _ _ (Finset.mem_filter.mpr ⟨Finset.mem_univ _, fun e' => (le_pick w e').trans h⟩)

/-- The row with its picked lane lowered to minus infinity. -/
def strike (w : Fin 64 → EReal) : Fin 64 → EReal := fun e => if e = pick w then ⊥ else w e

/-- The row after `r` rounds. -/
def rowAfter (l : Fin 64 → EReal) : ℕ → Fin 64 → EReal
  | 0 => l
  | r + 1 => strike (rowAfter l r)

/-- The lane picked in round `r`. -/
def picked (l : Fin 64 → EReal) (r : ℕ) : Fin 64 := pick (rowAfter l r)

/-- After `r` rounds a lane is at minus infinity if it was picked, and otherwise as it was. -/
theorem rowAfter_eq (l : Fin 64 → EReal) (r : ℕ) (e : Fin 64) :
    rowAfter l r e = if ∃ r' < r, picked l r' = e then ⊥ else l e := by
  induction r with
  | zero => simp [rowAfter]
  | succ r ih =>
    show (if e = pick (rowAfter l r) then ⊥ else rowAfter l r e) = _
    rw [ih]
    by_cases h : e = pick (rowAfter l r)
    · rw [if_pos h, if_pos ⟨r, Nat.lt_succ_self r, h.symm⟩]
    · rw [if_neg h]
      refine if_congr ⟨fun ⟨r', h1, h2⟩ => ⟨r', Nat.lt_succ_of_lt h1, h2⟩, fun ⟨r', h1, h2⟩ => ⟨r', ?_, h2⟩⟩ rfl rfl
      rcases Nat.lt_succ_iff_lt_or_eq.mp h1 with h1 | rfl
      · exact h1
      · exact absurd h2.symm h

/-- Lane `a` sorts before lane `b`: it holds more, or as much and is lower. -/
def before (l : Fin 64 → EReal) : Fin 64 → Fin 64 → Bool :=
  fun a b => decide (l b < l a) || (decide (l a = l b) && decide (a < b))

/-- That order is strict and total. -/
theorem before_total (l : Fin 64 → EReal) : StrictTotalBefore (before l) :=
  StrictTotalBefore.of_key_then_position (fun x y : EReal => decide (y < x)) l (by simp)
    (by simp only [decide_eq_true_eq]; exact fun a b c h1 h2 => h2.trans h1)
    (by
      simp only [decide_eq_true_eq]
      exact fun a b => (lt_trichotomy b a).imp_right (Or.imp_left Eq.symm))

/-- The lane picked in a round was picked in no earlier one, as long as the row's values are above minus infinity and a
    lane is left. -/
theorem picked_fresh (l : Fin 64 → EReal) (hl : ∀ e, ⊥ < l e) (r : ℕ) (hr : r < 64) (r' : ℕ) (h' : r' < r) :
    picked l r' ≠ picked l r := by
  intro h
  have h1 : rowAfter l r (picked l r) = ⊥ := by rw [rowAfter_eq, if_pos ⟨r', h', h⟩]
  have hall : ∀ e, ∃ i : Fin r, picked l i = e := fun e => by
    have h2 : rowAfter l r e = ⊥ := le_bot_iff.mp ((le_pick (rowAfter l r) e).trans h1.le)
    rw [rowAfter_eq] at h2
    by_contra hc
    rw [if_neg (fun ⟨i, hi, he⟩ => hc ⟨⟨i, hi⟩, he⟩)] at h2
    exact absurd h2 (hl e).ne'
  have := Fintype.card_le_of_surjective (fun i : Fin r => picked l i) hall
  simp only [Fintype.card_fin] at this
  omega

/-- A lane that was not picked before round `r` does not sort before the lane picked in it. -/
theorem picked_first (l : Fin 64 → EReal) (hl : ∀ e, ⊥ < l e) (r : ℕ) (hr : r < 64) (p : Fin 64)
    (hp : ∀ r' < r, picked l r' ≠ p) : before l p (picked l r) = false := by
  have h1 : rowAfter l r p = l p := by rw [rowAfter_eq, if_neg (fun ⟨i, hi, he⟩ => hp i hi he)]
  have h2 : rowAfter l r (picked l r) = l (picked l r) := by
    rw [rowAfter_eq, if_neg (fun ⟨i, hi, he⟩ => picked_fresh l hl r hr i hi he)]
  have hle : l p ≤ l (picked l r) := h1 ▸ h2 ▸ le_pick (rowAfter l r) p
  have hlow : l p = l (picked l r) → picked l r ≤ p := fun h =>
    pick_le (rowAfter l r) p (by rw [h1, h]; exact h2.le)
  simp only [before, Bool.or_eq_false_iff, Bool.and_eq_false_iff, decide_eq_false_iff_not, not_lt]
  refine ⟨hle, ?_⟩
  by_cases h : l p = l (picked l r)
  · exact Or.inr (hlow h)
  · exact Or.inl h

/-- Inserting below every element by value alone is inserting by value and then position. -/
theorem stableSort_by_value (l : Fin 64 → EReal) (L : List (Fin 64)) (hL : L.Pairwise (· < ·)) :
    stableSort (fun a b => decide (l b < l a)) L = stableSort (before l) L := by
  induction L with
  | nil => rfl
  | cons a L ih =>
    rw [List.pairwise_cons] at hL
    unfold stableSort
    rw [ih hL.2]
    refine insertBefore_congr _ _ _ _ fun b hb => ?_
    have hab : a < b := hL.1 b ((perm_stableSort _ L).mem_iff.mp hb)
    simp [before, hab.le]

/-- Two orders that list the positions alike put the same position at each place. -/
theorem sortedFrom_of_positions {n : ℕ} (R R' : Fin n → Fin n → Bool) (h : sortPositions n R = sortPositions n R') :
    sortedFrom R = sortedFrom R' := by
  funext k
  unfold sortedFrom
  exact List.get_of_eq h _

/-- The first lanes of the stable sort of a row by decreasing value are the lanes picked by repeated maximum. -/
theorem sortedFrom_eq_picked (l : Fin 64 → EReal) (hl : ∀ e, ⊥ < l e) (R : Fin 64 → Fin 64 → Bool)
    (hR : ∀ a b, R a b = decide (l b < l a)) (i : Fin 8) :
    sortedFrom R (i.castLE (by decide)) = picked l i := by
  have e1 : R = fun a b => decide (l b < l a) := funext fun a => funext fun b => hR a b
  have e2 : sortPositions 64 R = sortPositions 64 (before l) := by
    rw [e1]; exact stableSort_by_value l _ (List.pairwise_lt_finRange 64)
  rw [sortedFrom_of_positions R (before l) e2]
  refine (before_total l).sortedFrom_eq_of_prefix (by decide) (fun i : Fin 8 => picked l i) ?_ ?_ ?_ i
  · intro a b h
    by_contra hne
    rcases lt_or_gt_of_ne (fun h' : a.val = b.val => hne (Fin.ext h')) with h' | h'
    · exact picked_fresh l hl b (by omega) a h' h
    · exact picked_fresh l hl a (by omega) b h' h.symm
  · intro a b hab
    exact picked_first l hl a (by omega) _ fun r' h' h => by
      have h1 := picked_fresh l hl b (by omega) r' (lt_trans h' hab)
      exact h1 h
  · intro a p hp
    exact picked_first l hl a (by omega) p fun r' h' => hp ⟨r', by omega⟩

/-- The lanes picked in the first eight rounds are different ones. -/
theorem picked_injective (l : Fin 64 → EReal) (hl : ∀ e, ⊥ < l e) : Function.Injective fun i : Fin 8 => picked l i := by
  intro a b h
  by_contra hne
  rcases lt_or_gt_of_ne (fun h' : a.val = b.val => hne (Fin.ext h')) with h' | h'
  · exact picked_fresh l hl b (by omega) a h' h
  · exact picked_fresh l hl a (by omega) b h' h.symm

end Cert.Proof

end
-- ==== Proof.Score.lean ====
/- The router's weight of a lane of one row: the softmax over the eight picked lanes, and zero elsewhere. Pure arithmetic of
   the extended reals over one row of 64 values. -/
module

public import proofs.«01_k».proof.Proof.Selection
public import Idealize.ShloMosaic.PureOps.Ideal.Laws

@[expose] public section

noncomputable section

namespace Cert.Proof

open Idealize.ShloMosaic

/-- A row all of whose values are real numbers. -/
def RealRow (l : Fin 64 → EReal) : Prop := ∃ f : Fin 64 → ℝ, ∀ e, l e = (f e : EReal)

/-- Real values are above minus infinity. -/
theorem RealRow.bot_lt {l : Fin 64 → EReal} (h : RealRow l) (e : Fin 64) : ⊥ < l e := by
  obtain ⟨f, hf⟩ := h
  rw [hf]; exact EReal.bot_lt_coe _

/-- Lane `e` is one of the eight picked. -/
def Chosen (l : Fin 64 → EReal) (e : Fin 64) : Prop := ∃ i : Fin 8, picked l i = e

/-- Whether a lane is picked can be decided. -/
instance (l : Fin 64 → EReal) (e : Fin 64) : Decidable (Chosen l e) := Classical.propDecidable _

/-- The greatest value of a row. -/
def peak (l : Fin 64 → EReal) : EReal := l (picked l 0)

/-- No value of the row is above its peak. -/
theorem le_peak (l : Fin 64 → EReal) (e : Fin 64) : l e ≤ peak l := le_pick l e

/-- The exponential of a lane's distance to the peak. -/
def weight (l : Fin 64 → EReal) (e : Fin 64) : EReal := Ideal.exp (l e - peak l)

/-- The sum of the eight picked lanes' exponentials. -/
def total (l : Fin 64 → EReal) : EReal := ∑ i : Fin 8, weight l (picked l i)

/-- The router's weight of lane `e`. -/
def score (l : Fin 64 → EReal) (e : Fin 64) : EReal := if Chosen l e then Ideal.div (weight l e) (total l) else 0

/-- The maximum over the picked values is the row's peak. -/
theorem fold_picked (l : Fin 64 → EReal) :
    (Finset.univ : Finset (Fin 8)).fold max ⊥ (fun i : Fin 8 => l (picked l i)) = peak l := by
  refine le_antisymm ((Finset.fold_max_le _).mpr ⟨bot_le, fun i _ => le_peak l _⟩) ?_
  exact (Finset.le_fold_max _).mpr (Or.inr ⟨0, Finset.mem_univ _, le_rfl⟩)

/-- So is the maximum over the row with the other lanes masked by minus infinity. -/
theorem fold_masked (l : Fin 64 → EReal) :
    (Finset.univ : Finset (Fin 64)).fold max ⊥ (fun e => if Chosen l e then l e else ⊥) = peak l := by
  refine le_antisymm ((Finset.fold_max_le _).mpr ⟨bot_le, fun e _ => ?_⟩) ?_
  · split
    · exact le_peak l e
    · exact bot_le
  · refine (Finset.le_fold_max _).mpr (Or.inr ⟨picked l 0, Finset.mem_univ _, ?_⟩)
    rw [if_pos ⟨0, rfl⟩]
    exact le_rfl

/-- The sum over the row with the other lanes masked by zero is the sum over the picked lanes. -/
theorem sum_masked (l : Fin 64 → EReal) (hl : RealRow l) :
    (∑ e : Fin 64, if Chosen l e then weight l e else 0) = total l := by
  classical
  rw [total, ← Finset.sum_filter]
  have hset : (Finset.univ.filter fun e => Chosen l e) = Finset.univ.image fun i : Fin 8 => picked l i := by
    ext e
    rw [Finset.mem_filter, Finset.mem_image]
    exact ⟨fun ⟨_, i, h⟩ => ⟨i, Finset.mem_univ _, h⟩, fun ⟨i, _, h⟩ => ⟨Finset.mem_univ _, i, h⟩⟩
  rw [hset, Finset.sum_image fun a _ b _ h => picked_injective l hl.bot_lt h]

/-- The exponentials of a real row are positive real numbers. -/
theorem weight_real (l : Fin 64 → EReal) (hl : RealRow l) : ∃ g : Fin 64 → ℝ, ∀ e, 0 < g e ∧ weight l e = (g e : EReal) := by
  obtain ⟨f, hf⟩ := hl
  refine ⟨fun e => Real.exp (f e - f (picked l 0)), fun e => ⟨Real.exp_pos _, ?_⟩⟩
  rw [weight, peak, hf, hf, ← EReal.coe_sub]
  rfl

/-- Their sum over the picked lanes is a positive real number. -/
theorem total_real (l : Fin 64 → EReal) (hl : RealRow l) : ∃ z : ℝ, 0 < z ∧ total l = (z : EReal) := by
  obtain ⟨g, hg⟩ := weight_real l hl
  refine ⟨∑ i : Fin 8, g (picked l i), Finset.sum_pos (fun i _ => (hg _).1) Finset.univ_nonempty, ?_⟩
  rw [total]
  simp only [(hg _).2]
  norm_cast

/-- The quotient of a real number and a real number other than zero. -/
theorem div_real (a z : ℝ) (hz : z ≠ 0) : Ideal.div (a : EReal) (z : EReal) = ((a / z : ℝ) : EReal) := by
  rw [Ideal.div, if_neg (by exact_mod_cast hz), ← EReal.coe_inv, ← EReal.coe_mul, div_eq_mul_inv]

/-- The masked quotient is the score. -/
theorem div_masked (l : Fin 64 → EReal) (hl : RealRow l) (e : Fin 64) :
    Ideal.div (if Chosen l e then weight l e else 0) (total l) = score l e := by
  unfold score
  split
  · rfl
  · obtain ⟨z, hz, he⟩ := total_real l hl
    rw [he, ← EReal.coe_zero, div_real 0 z hz.ne', zero_div]

/-- A score is a nonnegative real number. -/
theorem score_real (l : Fin 64 → EReal) (hl : RealRow l) (e : Fin 64) : ∃ s : ℝ, 0 ≤ s ∧ score l e = (s : EReal) := by
  obtain ⟨z, hz, he⟩ := total_real l hl
  obtain ⟨g, hg⟩ := weight_real l hl
  unfold score
  split
  · exact ⟨g e / z, (div_pos (hg e).1 hz).le, by rw [(hg e).2, he, div_real _ _ hz.ne']⟩
  · exact ⟨0, le_rfl, rfl⟩

end Cert.Proof

end
-- ==== Proof.KernelPick.lean ====
/- One round of the kernel's routing as printed — a row's maximum, the lowest lane that compares equal to it, that lane
   overwritten with minus infinity — read row by row. -/
module

public import proofs.«01_k».proof.Proof.Score
public import proofs.«01_k».proof.Proof.Gen.KernelIdeal.Skeleton
public import Idealize.ShloMosaic.Lib.Pointwise
public import Idealize.ShloMosaic.Lib.WordCmp

@[expose] public section

set_option maxRecDepth 16384

noncomputable section

namespace Cert.Proof

open Idealize.ShloMosaic Cert.KernelIdeal Cert.KernelIdeal.Gen

/-- Row `b` of a block of 32 rows by 64 lanes. -/
def rowOf (w : FVec Ideal S32x64 .f32) (b : Fin 32) : Fin 64 → EReal := fun e => w (ix2 b e)

/-- The lanes' numbers. -/
def lanes : IVec S32x64 32 := iota .tc S32x64 32 [1] iota_S32x64_d1_w32

/-- Each row's maximum, on every lane of the row. -/
def rowMax (w : FVec Ideal S32x64 .f32) : FVec Ideal S32x64 .f32 :=
  broadcastTo S32x64 (shapeCast S32x1 (multiReduction .maximumf [1] S32 w 0xFF800000#32 reduces_S32x64_S32 (.inl rfl) rfl)
    shapeCasts_S32_S32x1) broadcasts_S32x1_S32x64

/-- The lane's number where the block equals its row's maximum, and 64 elsewhere. -/
def candidates (w : FVec Ideal S32x64 .f32) : IVec S32x64 32 :=
  select (cmpf .oeq w (rowMax w)) lanes (broadcast S32x64 64#32)

/-- The lane whose number is the row's least candidate. -/
def lowest (v : IVec S32x64 32) : IVec S32x64 1 :=
  cmpi .eq lanes (broadcastTo S32x64 (shapeCast S32x1 (multiReductionI .minsi [1] S32 v 2147483647#32 reduces_S32x64_S32 rfl)
    shapeCasts_S32_S32x1) broadcasts_S32x1_S32x64)

/-- The lane picked in a round. -/
def pickBits (w : FVec Ideal S32x64 .f32) : IVec S32x64 1 := lowest (candidates w)

/-- The block after a round. -/
def strikeBlock (w : FVec Ideal S32x64 .f32) : FVec Ideal S32x64 .f32 :=
  select (pickBits w) (broadcast S32x64 (Named.named κ "mask" 0xF149F2CA#32)) w

/-- The pattern of minus infinity. -/
theorem ofBits_neg_inf : Ideal.ofBits .f32 0xFF800000#32 = ⊥ := by simp [Ideal.ofBits, Ideal.ieee]

/-- The fold of maxima from minus infinity along a row is the value at the picked lane. -/
theorem fold_max_row (w : Fin 64 → EReal) : Finset.fold max (Ideal.ofBits .f32 0xFF800000#32) w Finset.univ = w (pick w) := by
  rw [ofBits_neg_inf]
  exact le_antisymm ((Finset.fold_max_le _).mpr ⟨bot_le, fun e _ => le_pick w e⟩)
    ((Finset.le_fold_max _).mpr (.inr ⟨_, Finset.mem_univ _, le_rfl⟩))

/-- The row's maximum at an index is the fold of the row. -/
theorem rowMax_fold (w : FVec Ideal S32x64 .f32) (b : Fin 32) (e : Fin 64) :
    rowMax w (ix2 b e) = Finset.fold max (Ideal.ofBits .f32 0xFF800000#32) (rowOf w b) Finset.univ := by
  unfold rowMax
  pointwise
  rfl

/-- It is the value at the picked lane. -/
theorem rowMax_apply (w : FVec Ideal S32x64 .f32) (b : Fin 32) (e : Fin 64) :
    rowMax w (ix2 b e) = rowOf w b (pick (rowOf w b)) := (rowMax_fold w b e).trans (fold_max_row (rowOf w b))

/-- The signed value of the smaller of two words is the smaller of their signed values. -/
theorem toInt_minsi (x y : BitVec 32) : (IntOp.minsi x y).toInt = min x.toInt y.toInt := by
  unfold IntOp.minsi
  rw [BitVec.slt_eq_decide]
  by_cases h : x.toInt < y.toInt
  · simp [h, min_eq_left h.le]
  · simp [h, min_eq_right (not_lt.mp h)]

/-- The least candidate of a row is the picked lane's number. -/
theorem fold_minsi_row (w : Fin 64 → EReal) (f : Fin 64 → BitVec 32)
    (hf : ∀ e, f e = if w e = w (pick w) then BitVec.ofNat 32 e.val else 64#32) :
    Finset.fold IntOp.minsi 2147483647#32 f Finset.univ = BitVec.ofNat 32 (pick w).val := by
  have hn : ∀ e : Fin 64, (BitVec.ofNat 32 e.val).toInt = (e.val : Int) := fun e =>
    WordCmp.toInt_ofNat_of_lt (lt_of_lt_of_le e.isLt (by decide))
  apply BitVec.eq_of_toInt_eq
  rw [← Finset.fold_hom (op' := min) (m := BitVec.toInt) toInt_minsi, hn]
  apply le_antisymm
  · refine (Finset.fold_min_le _).mpr (.inr ⟨pick w, Finset.mem_univ _, ?_⟩)
    rw [hf, if_pos rfl, hn]
  · refine (Finset.le_fold_min _).mpr ⟨?_, fun e _ => ?_⟩
    · have : ((2147483647#32 : BitVec 32)).toInt = 2147483647 := by decide
      rw [this]; have := (pick w).isLt; omega
    · rw [hf]
      split
      · next h => rw [hn]; exact_mod_cast Fin.le_def.mp (pick_le w e h.ge)
      · have : ((64#32 : BitVec 32)).toInt = 64 := by decide
        rw [this]; have := (pick w).isLt; omega

/-- The candidates at an index. -/
theorem candidates_apply (w : FVec Ideal S32x64 .f32) (b : Fin 32) (e : Fin 64) :
    candidates w (ix2 b e) = if rowOf w b e = rowOf w b (pick (rowOf w b)) then BitVec.ofNat 32 e.val else 64#32 := by
  show Scalar.select (Ideal.cmp .oeq (w (ix2 b e)) (rowMax w (ix2 b e))) (BitVec.ofNat 32 (0 * 64 + e.val)) 64#32 = _
  rw [rowMax_apply]
  by_cases h : rowOf w b e = rowOf w b (pick (rowOf w b))
  · rw [if_pos h]; simp [Scalar.select, Ideal.cmp, show w (ix2 b e) = _ from h]
  · rw [if_neg h]; simp [Scalar.select, Ideal.cmp, show ¬ w (ix2 b e) = _ from h]

/-- The lane picked in a round, at an index. -/
theorem pickBits_apply (w : FVec Ideal S32x64 .f32) (b : Fin 32) (e : Fin 64) :
    pickBits w (ix2 b e) = BitVec.ofBool (decide (e = pick (rowOf w b))) := by
  unfold pickBits lowest lanes
  pointwise
  rw [fold_minsi_row (rowOf w b) _ (fun e => candidates_apply w b e),
    WordCmp.cmpi_eq_ofNat (lt_of_lt_of_le e.isLt (by decide)) (lt_of_lt_of_le (pick (rowOf w b)).isLt (by decide))]
  simp only [Fin.ext_iff]

/-- A row after a round is the row with its picked lane struck. -/
theorem rowOf_strikeBlock (w : FVec Ideal S32x64 .f32) (b : Fin 32) : rowOf (strikeBlock w) b = strike (rowOf w b) := by
  funext e
  show Scalar.select (pickBits w (ix2 b e)) (Named.named κ "mask" 0xF149F2CA#32) (w (ix2 b e)) = _
  rw [pickBits_apply, IdealRules.named_const.ideal_named_scalar _ _ _ ⊥ rfl]
  unfold strike Scalar.select
  by_cases h : e = pick (rowOf w b) <;> simp [h, rowOf]

/-- The block after `r` rounds. -/
def blockAfter (w : FVec Ideal S32x64 .f32) : ℕ → FVec Ideal S32x64 .f32
  | 0 => w
  | r + 1 => strikeBlock (blockAfter w r)

/-- Its rows are the rows after `r` rounds. -/
theorem rowOf_blockAfter (w : FVec Ideal S32x64 .f32) (b : Fin 32) (r : ℕ) : rowOf (blockAfter w r) b = rowAfter (rowOf w b) r := by
  induction r with
  | zero => rfl
  | succ r ih => show rowOf (strikeBlock _) b = _; rw [rowOf_strikeBlock, ih]; rfl

/-- The lanes picked in the first `r` rounds. -/
def pickedBits (w : FVec Ideal S32x64 .f32) : ℕ → IVec S32x64 1
  | 0 => broadcast S32x64 0#1
  | r + 1 => ori (pickedBits w r) (pickBits (blockAfter w r))

/-- A lane is marked after `r` rounds when one of them picked it. -/
theorem pickedBits_apply (w : FVec Ideal S32x64 .f32) (b : Fin 32) (e : Fin 64) (r : ℕ) :
    pickedBits w r (ix2 b e) = BitVec.ofBool (decide (∃ r' < r, picked (rowOf w b) r' = e)) := by
  induction r with
  | zero => simp [pickedBits]; rfl
  | succ r ih =>
    show IntOp.ori (pickedBits w r (ix2 b e)) (pickBits (blockAfter w r) (ix2 b e)) = _
    rw [ih, pickBits_apply, rowOf_blockAfter, WordCmp.ori_ofBool]
    congr 1
    rw [← Bool.decide_or]
    congr 1
    refine propext ⟨?_, ?_⟩
    · rintro (⟨r', h, rfl⟩ | rfl)
      · exact ⟨r', by omega, rfl⟩
      · exact ⟨r, by omega, rfl⟩
    · rintro ⟨r', h, rfl⟩
      rcases Nat.lt_succ_iff_lt_or_eq.mp h with h | rfl
      · exact .inl ⟨r', h, rfl⟩
      · exact .inr rfl

/-- After eight rounds the marked lanes are the chosen ones. -/
theorem pickedBits_eight (w : FVec Ideal S32x64 .f32) (b : Fin 32) (e : Fin 64) :
    pickedBits w 8 (ix2 b e) = BitVec.ofBool (decide (Chosen (rowOf w b) e)) := by
  rw [pickedBits_apply]
  congr 1
  exact decide_eq_decide.mpr ⟨fun ⟨r, h, he⟩ => ⟨⟨r, h⟩, he⟩, fun ⟨i, he⟩ => ⟨i.val, i.isLt, he⟩⟩

end Cert.Proof

end
-- ==== Proof.KernelRouter.lean ====
/- The scores the kernel keeps in its scratch: the eight rounds as printed, then the softmax over the chosen lanes. -/
module

public import proofs.«01_k».proof.Proof.KernelPick

@[expose] public section

set_option maxRecDepth 16384

noncomputable section

namespace Cert.Proof

open Idealize.ShloMosaic Cert.KernelIdeal Cert.KernelIdeal.Gen

/-- The block where marked, and minus infinity elsewhere. -/
def masked (s : IVec S32x64 1) (w : FVec Ideal S32x64 .f32) : FVec Ideal S32x64 .f32 :=
  select s w (broadcast S32x64 (Named.named κ "mask" 0xF149F2CA#32))

/-- The exponentials of the marked lanes' distances from the greatest of them, and 0 elsewhere. -/
def powers (s : IVec S32x64 1) (w : FVec Ideal S32x64 .f32) : FVec Ideal S32x64 .f32 :=
  select s (exp (subf w (rowMax (masked s w)))) (broadcast S32x64 (Scalar.ofBits .f32 0x00000000#32))

/-- Each row's sum, on every lane of the row. -/
def rowSum (w : FVec Ideal S32x64 .f32) : FVec Ideal S32x64 .f32 :=
  broadcastTo S32x64 (shapeCast S32x1 (multiReduction .add [1] S32 w 0x00000000#32 reduces_S32x64_S32 (.inl rfl) rfl)
    shapeCasts_S32_S32x1) broadcasts_S32x1_S32x64

/-- The stored scores, from the logits. -/
def scoreBlock (w : FVec Ideal S32x64 .f32) : FVec Ideal S32x64 .f32 :=
  shapeCast S32x64 (divf (powers (pickedBits w 8) w) (rowSum (powers (pickedBits w 8) w))) shapeCasts_S32x64_S32x64

section Payload

variable (x : Vec Ideal S32x2048 .f32) (rw : Vec Ideal S64x2048 .f32) (rb : Vec Ideal S1x64 .f32)

/-- The row block the second round starts from has one round done. -/
theorem pay5_eq : k0_pay5 x rw rb = blockAfter (k0_pay3 x rw rb) 1 := rfl

/-- The row block the third round starts from has two rounds done. -/
theorem pay8_eq : k0_pay8 x rw rb = blockAfter (k0_pay3 x rw rb) 2 := by
  show strikeBlock (k0_pay5 x rw rb) = _; rw [pay5_eq]; rfl

/-- The third round compares lanes with the maximum of the block after two rounds. -/
theorem pay9_eq : k0_pay9 x rw rb = candidates (blockAfter (k0_pay3 x rw rb) 2) := by
  show candidates (k0_pay8 x rw rb) = _; rw [pay8_eq]

/-- The lanes marked by the first two rounds. -/
theorem pay7_eq : k0_pay7 x rw rb = pickedBits (k0_pay3 x rw rb) 2 := by
  show ori (ori (broadcast S32x64 0#1) (pickBits (k0_pay3 x rw rb))) (pickBits (k0_pay5 x rw rb)) = _
  rw [pay5_eq]; rfl

variable (w : FVec Ideal S32x64 .f32)

/-- One round more lowers the picked lanes once. -/
theorem pay11_eq : k0_pay11 lanes w (candidates w) = strikeBlock w := rfl

/-- Two rounds more lower the picked lanes twice. -/
theorem pay13_eq : k0_pay13 lanes w (candidates w) = strikeBlock (strikeBlock w) := by
  show strikeBlock (k0_pay11 lanes w (candidates w)) = _; rw [pay11_eq]

/-- Three rounds more lower the picked lanes three times. -/
theorem pay15_eq : k0_pay15 lanes w (candidates w) = strikeBlock (strikeBlock (strikeBlock w)) := by
  show strikeBlock (k0_pay13 lanes w (candidates w)) = _; rw [pay13_eq]

/-- Four rounds more lower the picked lanes four times. -/
theorem pay18_eq : k0_pay18 lanes w (candidates w) = strikeBlock (strikeBlock (strikeBlock (strikeBlock w))) := by
  show strikeBlock (k0_pay15 lanes w (candidates w)) = _; rw [pay15_eq]

/-- The lanes marked after four rounds more. -/
theorem pay17_eq (s : IVec S32x64 1) : k0_pay17 lanes s w (candidates w) =
    ori (ori (ori (ori s (pickBits w)) (pickBits (strikeBlock w))) (pickBits (strikeBlock (strikeBlock w))))
      (pickBits (strikeBlock (strikeBlock (strikeBlock w)))) := by
  show ori (ori (ori (ori s (pickBits w)) (pickBits (k0_pay11 lanes w (candidates w)))) (pickBits (k0_pay13 lanes w (candidates w))))
    (pickBits (k0_pay15 lanes w (candidates w))) = _
  rw [pay11_eq, pay13_eq, pay15_eq]

/-- The last two rounds and the softmax over the marked lanes. -/
theorem pay19_eq (l : FVec Ideal S32x64 .f32) (s : IVec S32x64 1) : k0_pay19 l lanes s w =
    shapeCast S32x64 (divf (powers (ori (ori s (pickBits w)) (pickBits (strikeBlock w))) l)
      (rowSum (powers (ori (ori s (pickBits w)) (pickBits (strikeBlock w))) l))) shapeCasts_S32x64_S32x64 := rfl

/-- The stored scores are the score block of the logits. -/
theorem stored_scores : k0_pay19 (k0_pay3 x rw rb) lanes
    (k0_pay17 lanes (k0_pay7 x rw rb) (k0_pay8 x rw rb) (k0_pay9 x rw rb))
    (k0_pay18 lanes (k0_pay8 x rw rb) (k0_pay9 x rw rb)) = scoreBlock (k0_pay3 x rw rb) := by
  rw [pay9_eq, pay8_eq, pay7_eq, pay17_eq, pay18_eq, pay19_eq]
  rfl

end Payload

/-- The scores at an index, where the row of logits is real. -/
theorem scoreBlock_apply (w : FVec Ideal S32x64 .f32) (b : Fin 32) (e : Fin 64) (hw : RealRow (rowOf w b)) :
    scoreBlock w (ix2 b e) = score (rowOf w b) e := by
  have hp : ∀ e, pickedBits w 8 (ix2 b e) = BitVec.ofBool (decide (Chosen (rowOf w b) e)) := pickedBits_eight w b
  have hm : rowOf (masked (pickedBits w 8) w) b = fun e => if Chosen (rowOf w b) e then rowOf w b e else ⊥ := by
    funext e
    show Scalar.select (pickedBits w 8 (ix2 b e)) (w (ix2 b e)) (Named.named κ "mask" 0xF149F2CA#32) = _
    rw [hp, IdealRules.named_const.ideal_named_scalar _ _ _ ⊥ rfl]
    by_cases h : Chosen (rowOf w b) e <;> simp [h, Scalar.select, rowOf]
  have hx : ∀ e, powers (pickedBits w 8) w (ix2 b e) = if Chosen (rowOf w b) e then weight (rowOf w b) e else 0 := by
    intro e
    show Scalar.select (pickedBits w 8 (ix2 b e)) (Ideal.exp (w (ix2 b e) - rowMax (masked (pickedBits w 8) w) (ix2 b e)))
      (Ideal.ofBits .f32 0x00000000#32) = _
    rw [hp, rowMax_fold, hm, ofBits_neg_inf, fold_masked]
    by_cases h : Chosen (rowOf w b) e <;> simp [h, Scalar.select, weight, rowOf, Ideal.ofBits_zero_f32]
  have hs : rowSum (powers (pickedBits w 8) w) (ix2 b e) = total (rowOf w b) := by
    unfold rowSum
    pointwise
    simp only [hx]
    exact sum_masked _ hw
  unfold scoreBlock
  pointwise
  rw [hs, hx]
  exact div_masked _ hw e

end Cert.Proof

end
-- ==== Proof.Expert.lean ====
/- One expert's arithmetic on the extended reals, and what the whole layer computes at an index. -/
module

public import proofs.«01_k».proof.Proof.Score
public import Idealize.ShloMosaic.Lib.Pointwise

@[expose] public section

noncomputable section

namespace Cert.Proof

open Idealize.ShloMosaic

/-- The gated half: the value cut at 7 times the logistic of 1.702 times it. -/
def gated (g : EReal) : EReal :=
  min g (Ideal.ofBits .f32 0x40E00000#32) *
    Ideal.logistic (min g (Ideal.ofBits .f32 0x40E00000#32) * Ideal.ofBits .f32 0x3FD9DB23#32)

/-- The linear half: the value clipped to the interval from -7 to 7, plus 1. -/
def linear (u : EReal) : EReal := min (Ideal.ofBits .f32 0x40E00000#32) (max (Ideal.ofBits .f32 0xC0E00000#32) u) + 1

/-- The column of the interleaved projection that holds the gate of hidden unit `d`. -/
def evenCol (d : Fin 1024) : Fin 2048 := ⟨2 * d.val, by omega⟩

/-- The column that holds the linear half of hidden unit `d`. -/
def oddCol (d : Fin 1024) : Fin 2048 := ⟨2 * d.val + 1, by omega⟩

section Layer

variable (x : Fin 32 → Fin 2048 → EReal) (rw : Fin 64 → Fin 2048 → EReal) (rb : Fin 64 → EReal)
  (wg : Fin 64 → Fin 2048 → Fin 2048 → EReal) (bg : Fin 64 → Fin 2048 → EReal)
  (wd : Fin 64 → Fin 1024 → Fin 2048 → EReal) (bd : Fin 64 → Fin 2048 → EReal)

/-- A token's logits. -/
def logits (b : Fin 32) (e : Fin 64) : EReal := (∑ h : Fin 2048, x b h * rw e h) + rb e

/-- The interleaved projection of a token by an expert. -/
def project (b : Fin 32) (e : Fin 64) (k : Fin 2048) : EReal := (∑ h : Fin 2048, x b h * wg e h k) + bg e k

/-- An expert's hidden units for a token. -/
def hidden (b : Fin 32) (e : Fin 64) (d : Fin 1024) : EReal :=
  gated (project x wg bg b e (evenCol d)) * linear (project x wg bg b e (oddCol d))

/-- An expert's output for a token. -/
def expertOut (b : Fin 32) (e : Fin 64) (o : Fin 2048) : EReal := (∑ d : Fin 1024, hidden x wg bg b e d * wd e d o) + bd e o

/-- The layer's output: the experts' outputs weighed by their scores. -/
def layer (b : Fin 32) (o : Fin 2048) : EReal :=
  ∑ e : Fin 64, expertOut x wg bg wd bd b e o * score (logits x rw rb b) e

/-- Hidden unit `d` of half `j`. -/
def unitOf (j : Fin 2) (d : Fin 512) : Fin 1024 := ⟨512 * j.val + d.val, by omega⟩

/-- What one half of an expert's hidden units adds, the bias going with the first half. -/
def halfTerm (b : Fin 32) (e : Fin 64) (j : Fin 2) (o : Fin 2048) : EReal :=
  ((∑ d : Fin 512, hidden x wg bg b e (unitOf j d) * wd e (unitOf j d) o) + if j = 0 then bd e o else 0) *
    score (logits x rw rb b) e

/-- The two halves together are the expert's weighed output, the score being real. -/
theorem halfTerm_add (b : Fin 32) (e : Fin 64) (o : Fin 2048) (hl : RealRow (logits x rw rb b)) :
    halfTerm x rw rb wg bg wd bd b e 0 o + halfTerm x rw rb wg bg wd bd b e 1 o =
      expertOut x wg bg wd bd b e o * score (logits x rw rb b) e := by
  obtain ⟨s, hs, he⟩ := score_real _ hl e
  have h0 : (0 : EReal) ≤ score (logits x rw rb b) e := by rw [he]; exact_mod_cast hs
  have hT : score (logits x rw rb b) e ≠ ⊤ := by rw [he]; exact EReal.coe_ne_top _
  unfold halfTerm expertOut
  rw [← EReal.right_distrib_of_nonneg_of_ne_top h0 hT, if_pos rfl, if_neg (by decide), add_zero, add_right_comm]
  congr 2
  rw [Fin.sum_univ_two_halves 512 512 rfl]
  refine congrArg₂ _ (Finset.sum_congr rfl fun d _ => ?_) rfl
  rw [show unitOf 0 d = ⟨d.val, by omega⟩ from Fin.ext (by simp [unitOf])]

end Layer

end Cert.Proof

end
-- ==== Proof.KernelBody.lean ====
/- What one grid point computes, read at an index. -/
module

public import proofs.«01_k».proof.Proof.KernelRouter
public import proofs.«01_k».proof.Proof.Expert

@[expose] public section

set_option maxRecDepth 16384

noncomputable section

namespace Cert.Proof

open Idealize.ShloMosaic Cert.KernelIdeal Cert.KernelIdeal.Gen

/-- The logits at an index: a row of tokens against a row of weights, and the bias. -/
theorem pay3_apply (x : Vec Ideal S32x2048 .f32) (rw : Vec Ideal S64x2048 .f32) (rb : Vec Ideal S1x64 .f32) (b : Fin 32) (e : Fin 64) :
    k0_pay3 x rw rb (ix2 b e) = (∑ h : Fin 2048, x (ix2 b h) * rw (ix2 e h)) + rb (ix2 0 e) := by
  pointwise [k0_pay3]

/-- A block of the interleaved projection at an index. -/
def blockProject (x : Vec Ideal S32x2048 .f32) (wt : Vec Ideal S1x2048x1024 .f32) (wb : Vec Ideal S1x1x1024 .f32) (b : Fin 32)
    (k : Fin 1024) : EReal := (∑ h : Fin 2048, x (ix2 b h) * wt (ix3 0 h k)) + wb (ix3 0 0 k)

/-- The block's hidden units, the last product picking the even columns. -/
theorem pay20_apply (x : Vec Ideal S32x2048 .f32) (wt : Vec Ideal S1x2048x1024 .f32) (wb : Vec Ideal S1x1x1024 .f32)
    (p : Vec Ideal S1024x512 .bf16) (hp : ∀ (k : Fin 1024) (d : Fin 512), p (ix2 k d) = if k.val = 2 * d.val then (1 : EReal) else 0)
    (b : Fin 32) (d : Fin 512) :
    k0_pay20 x wt wb p (ix2 b d) =
      gated (blockProject x wt wb b ⟨2 * d.val, by omega⟩) * linear (blockProject x wt wb b ⟨2 * d.val + 1, by omega⟩) := by
  pointwise [k0_pay20]
  simp only [hp]
  rw [Finset.sum_eq_single (⟨2 * d.val, by omega⟩ : Fin 1024)
    (fun k _ hk => by rw [if_neg (fun h => hk (Fin.ext h)), mul_zero]) (fun h => absurd (Finset.mem_univ _) h), if_pos rfl, mul_one]
  have hk : (2 * d.val + 1024 - 1023) % 1024 = 2 * d.val + 1 := by omega
  simp only [hk]
  rfl

/-- The one lane a point's expert number selects. -/
theorem sum_lane (e : Fin 64) (s : Fin 64 → EReal) :
    (∑ x : Fin 64, Scalar.select (IntOp.cmpi .eq (BitVec.ofNat 32 x.val) (BitVec.ofNat 32 e.val)) (s x) (0 : EReal)) = s e := by
  have h : ∀ x : Fin 64, Scalar.select (IntOp.cmpi .eq (BitVec.ofNat 32 x.val) (BitVec.ofNat 32 e.val)) (s x) (0 : EReal) =
      if x = e then s x else 0 := by
    intro x
    rw [WordCmp.cmpi_eq_ofNat (lt_of_lt_of_le x.isLt (by decide)) (lt_of_lt_of_le e.isLt (by decide))]
    by_cases hx : x = e <;> simp [Scalar.select, hx, ← Fin.ext_iff]
  simp only [h, Finset.sum_ite_eq', Finset.mem_univ, if_true]

/-- What a point adds to the result, at an index. -/
theorem pay1_apply (e : Fin 64) (j : Fin 2) (act : FVec Ideal S32x512 .f32) (dp : Vec Ideal S1x512x2048 .f32)
    (db : Vec Ideal S1x1x2048 .f32) (s : Vec Ideal S32x64 .f32) (b : Fin 32) (o : Fin 2048) :
    k0_pay1 (BitVec.ofNat 32 e.val) (BitVec.ofNat 32 j.val) act dp db s (ix2 b o) =
      ((∑ d : Fin 512, act (ix2 b d) * dp (ix3 0 d o)) + if j = 0 then db (ix3 0 0 o) else 0) * s (ix2 b e) := by
  pointwise [k0_pay1]
  have hs := sum_lane e fun x => s (ix2 b x)
  have hj : Scalar.cmpi .eq (BitVec.ofNat 32 j.val) 0#32 = BitVec.ofBool (decide (j = 0)) := by
    fin_cases j <;> rfl
  rw [hj]
  erw [hs]
  by_cases h : j = 0 <;> simp [h, Scalar.select]

/-- A later point adds its term to what the result held. -/
theorem pay2_apply (a0 a1 : BitVec 32) (act : FVec Ideal S32x512 .f32) (dp : Vec Ideal S1x512x2048 .f32) (db : Vec Ideal S1x1x2048 .f32)
    (s : Vec Ideal S32x64 .f32) (y : Vec Ideal S32x2048 .f32) (b : Fin 32) (o : Fin 2048) :
    k0_pay2 a0 a1 act dp db s y (ix2 b o) = y (ix2 b o) + k0_pay1 a0 a1 act dp db s (ix2 b o) := by
  unfold k0_pay2
  generalize k0_pay1 a0 a1 act dp db s = z
  pointwise

end Cert.Proof

end
-- ==== Proof.KernelCases.lean ====
/- What the body leaves behind at the first point and at a later one, from the blocks its windows hold. -/
module

public import proofs.«01_k».proof.Proof.KernelBody
public import proofs.«01_k».proof.Proof.Gen.KernelIdeal.Value
public import Idealize.ShloMosaic.Lib.Pipeline.Value
public import Idealize.ShloMosaic.Lib.Tactic

@[expose] public section

set_option maxRecDepth 16384

noncomputable section

namespace Cert.Proof

open Idealize.ShloMosaic Idealize.ShloMosaic.TcCoe Idealize.SL.Sem Cert.KernelIdeal Cert.KernelIdeal.Gen

/-- Two zero offsets. -/
theorem offs2 : (![0, 0] : Fin 2 → Nat) = fun _ => 0 := funext fun a => by fin_cases a <;> rfl

/-- Three zero offsets. -/
theorem offs3 : (![0, 0, 0] : Fin 3 → Nat) = fun _ => 0 := funext fun a => by fin_cases a <;> rfl

section Cases

variable (c : Dev nD) (i : grid0.Coords)
  (a2 : Memref sig .tc .vmem S32x2048 .f32) (h2 : a2.IsWhole) (a3 : Memref sig .tc .vmem S64x2048 .f32) (h3 : a3.IsWhole)
  (a4 : Memref sig .tc .vmem S1x64 .f32) (h4 : a4.IsWhole) (a5 : Memref sig .tc .vmem S1x2048x1024 .f32) (h5 : a5.IsWhole)
  (a6 : Memref sig .tc .vmem S1x1x1024 .f32) (h6 : a6.IsWhole) (a7 : Memref sig .tc .vmem S1x512x2048 .f32) (h7 : a7.IsWhole)
  (a8 : Memref sig .tc .vmem S1x1x2048 .f32) (h8 : a8.IsWhole) (a9 : Memref sig .tc .vmem S1024x512 .bf16) (h9 : a9.IsWhole)
  (a10 : Memref sig .tc .vmem S32x2048 .f32) (h10 : a10.IsWhole) (a11 : Memref sig .tc .vmem S32x64 .f32) (h11 : a11.IsWhole)
  (x0 : Vec Ideal S32x2048 .f32) (x1 : Vec Ideal S64x2048 .f32) (x2 : Vec Ideal S1x64 .f32) (x3 : Vec Ideal S1x2048x1024 .f32)
  (x4 : Vec Ideal S1x1x1024 .f32) (x5 : Vec Ideal S1x512x2048 .f32) (x6 : Vec Ideal S1x1x2048 .f32) (x7 : Vec Ideal S1024x512 .bf16)

/-- The scratch after the first point: the score block of the logits. -/
theorem scratch_first (g0 : cond0_0 i) (g1 : cond0_1 i) (g2 : ¬cond0_2 i) :
    sout0_A_0 c i a2 h2 a3 h3 a4 h4 a5 h5 a6 h6 a7 h7 a8 h8 a9 h9 a10 h10 a11 h11 g0 g1 g2 x0 x1 x2 x3 x4 x5 x6 x7 =
      scoreBlock (k0_pay3 x0 x1 x2) := by
  unfold sout0_A_0
  rw [View.read_writes_eq_canon _ _ _ (scover0_A_0 c i a2 h2 a3 h3 a4 h4 a5 h5 a6 h6 a7 h7 a8 h8 a9 h9 a10 h10 a11 h11 g0 g1 g2 x0 x1 x2 x3 x4 x5 x6 x7)]
  unfold kernelRun0_A
  dsimp only
  sl_unfold_words
  rw [View.canon_unit_zero offs2]
  simp only [View.readAt_eq_ld, h2.read_unread, h3.read_unread, h4.read_unread, View.ld_unit_zero (S := S32x2048) offs2,
    View.ld_unit_zero (S := S64x2048) offs2, View.ld_unit_zero (S := S1x64) offs2]
  exact stored_scores x0 x1 x2

/-- The result's buffer after the first point: the first term, at the scores just stored. -/
theorem out_first (g0 : cond0_0 i) (g1 : cond0_1 i) (g2 : ¬cond0_2 i) :
    out0_A_8 c i a2 h2 a3 h3 a4 h4 a5 h5 a6 h6 a7 h7 a8 h8 a9 h9 a10 h10 a11 h11 g0 g1 g2 x0 x1 x2 x3 x4 x5 x6 x7 =
      k0_pay1 (BitVec.ofNat 32 (i 0).val) (BitVec.ofNat 32 (i 1).val) (k0_pay20 x0 x3 x4 x7) x5 x6 (scoreBlock (k0_pay3 x0 x1 x2)) := by
  unfold out0_A_8
  rw [View.read_writes_eq_canon _ _ _ (cover0_A_8 c i a2 h2 a3 h3 a4 h4 a5 h5 a6 h6 a7 h7 a8 h8 a9 h9 a10 h10 a11 h11 g0 g1 g2 x0 x1 x2 x3 x4 x5 x6 x7)]
  unfold kernelRun0_A
  dsimp only
  sl_unfold_words
  rw [View.canon_unit_zero offs2]
  simp only [View.readAt_eq_ld, h2.read_unread, h3.read_unread, h4.read_unread, h5.read_unread, h6.read_unread, h7.read_unread,
    h8.read_unread, h9.read_unread, View.ld_unit_zero (S := S32x2048) offs2,
    View.ld_unit_zero (S := S64x2048) offs2, View.ld_unit_zero (S := S1x64) offs2, View.ld_unit_zero (S := S1x2048x1024) offs3,
    View.ld_unit_zero (S := S1x1x1024) offs3, View.ld_unit_zero (S := S1x512x2048) offs3, View.ld_unit_zero (S := S1x1x2048) offs3,
    View.ld_unit_zero (S := S1024x512) offs2]
  rw [View.readCov_unit_zero (S := S32x64) _ offs2]
  rw [← stored_scores x0 x1 x2]
  rfl

/-- The result's buffer after a later point: what it held and the point's term, at the scores in the scratch. -/
theorem out_later (g0 : ¬cond0_0 i) (g1 : ¬cond0_1 i) (g2 : cond0_2 i) (y : Vec Ideal S32x2048 .f32) (s : Vec Ideal S32x64 .f32) :
    out0_B_8 c i a2 h2 a3 h3 a4 h4 a5 h5 a6 h6 a7 h7 a8 h8 a9 h9 a10 h10 a11 h11 g0 g1 g2 x0 x1 x2 x3 x4 x5 x6 x7 y s =
      k0_pay2 (BitVec.ofNat 32 (i 0).val) (BitVec.ofNat 32 (i 1).val) (k0_pay20 x0 x3 x4 x7) x5 x6 s y := by
  unfold out0_B_8
  rw [View.read_writes_eq_canon _ _ _ (cover0_B_8 c i a2 h2 a3 h3 a4 h4 a5 h5 a6 h6 a7 h7 a8 h8 a9 h9 a10 h10 a11 h11 g0 g1 g2 x0 x1 x2 x3 x4 x5 x6 x7 y s)]
  unfold kernelRun0_B
  dsimp only
  sl_unfold_words
  rw [View.canon_unit_zero offs2]
  simp only [View.readAt_eq_ld, h2.read_unread, h3.read_unread, h4.read_unread, h5.read_unread, h6.read_unread, h7.read_unread,
    h8.read_unread, h9.read_unread, h10.read_unread, h11.read_unread, View.ld_unit_zero (S := S32x2048) offs2,
    View.ld_unit_zero (S := S32x64) offs2, View.ld_unit_zero (S := S1x2048x1024) offs3,
    View.ld_unit_zero (S := S1x1x1024) offs3, View.ld_unit_zero (S := S1x512x2048) offs3, View.ld_unit_zero (S := S1x1x2048) offs3,
    View.ld_unit_zero (S := S1024x512) offs2]

end Cases

end Cert.Proof

end
-- ==== Proof.KernelBlocks.lean ====
/- What the windows hold at a grid point, read off the argument arrays. -/
module

public import proofs.«01_k».proof.Proof.KernelCases
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen

/-- A grid point is an expert and a half of its hidden units. -/
theorem coords_eq : ∀ t : Fin grid0.N, (grid0.coords t 0).val = t.val / 2 ∧ (grid0.coords t 1).val = t.val % 2 := by decide +kernel

/-- Which block of its array each window holds at a point. -/
theorem index_eq : ∀ t : Fin grid0.N, win0_0.index t = ![0, 0] ∧ win0_1.index t = ![0, 0] ∧ win0_2.index t = ![0, 0] ∧
    win0_3.index t = ![t.val / 2, 0, t.val % 2] ∧ win0_4.index t = ![t.val / 2, 0, t.val % 2] ∧
    win0_5.index t = ![t.val / 2, t.val % 2, 0] ∧ win0_6.index t = ![t.val / 2, 0, 0] ∧ win0_7.index t = ![0, 0] := by decide +kernel

variable (m : (ℓ : Loc nD τ sig) → Buf (Elt Ideal) ℓ) (c : Dev nD) (t : Fin cfg0.N)

/-- The expert of a point. -/
def expertOf (t : Fin cfg0.N) : Fin 64 := ⟨t.val / 2, by have := lt_of_lt_of_eq t.isLt (show cfg0.N = 128 from N_0); omega⟩

/-- The half of a point. -/
def halfOf (t : Fin cfg0.N) : Fin 2 := ⟨t.val % 2, by omega⟩

/-- The tokens. -/
theorem block0_apply (b : Fin 32) (h : Fin 2048) :
    iblk m c 0 t (ix2 b h) = m ((c : Thread nD τ).loc main_arg0) (ix3 b 0 h) := by
  blk_ext! [iblk, V, index_eq t]

/-- The router's weights. -/
theorem block1_apply (e : Fin 64) (h : Fin 2048) :
    iblk m c 1 t (ix2 e h) = m ((c : Thread nD τ).loc main_arg1) (ix2 e h) := by
  blk_ext! [iblk, V, index_eq t]

/-- The router's bias. -/
theorem block2_apply (e : Fin 64) :
    iblk m c 2 t (ix2 0 e) = m ((c : Thread nD τ).loc main_arg2) (ix1 e) := by
  blk_ext! [iblk, V, index_eq t]

/-- The point's columns of its expert's interleaved projection. -/
theorem block3_apply (h : Fin 2048) (k : Fin 1024) :
    iblk m c 3 t (ix3 0 h k) = m ((c : Thread nD τ).loc main_arg3)
      (ix3 (expertOf t) h ⟨1024 * (halfOf t).val + k.val, by have := (halfOf t).isLt; omega⟩) := by
  blk_ext! [iblk, V, index_eq t]
  all_goals (simp only [expertOf, halfOf, unitOf]; omega)

/-- The bias of those columns. -/
theorem block4_apply (k : Fin 1024) :
    iblk m c 4 t (ix3 0 0 k) = m ((c : Thread nD τ).loc main_arg4)
      (ix2 (expertOf t) ⟨1024 * (halfOf t).val + k.val, by have := (halfOf t).isLt; omega⟩) := by
  blk_ext! [iblk, V, index_eq t]
  all_goals (simp only [expertOf, halfOf, unitOf]; omega)

/-- The point's rows of its expert's second projection. -/
theorem block5_apply (d : Fin 512) (o : Fin 2048) :
    iblk m c 5 t (ix3 0 d o) = m ((c : Thread nD τ).loc main_arg5) (ix3 (expertOf t) (unitOf (halfOf t) d) o) := by
  blk_ext! [iblk, V, index_eq t]
  all_goals (simp only [expertOf, halfOf, unitOf]; omega)

/-- The bias of the second projection. -/
theorem block6_apply (o : Fin 2048) :
    iblk m c 6 t (ix3 0 0 o) = m ((c : Thread nD τ).loc main_arg6) (ix2 (expertOf t) o) := by
  blk_ext! [iblk, V, index_eq t]
  all_goals (simp only [expertOf, halfOf, unitOf]; omega)

/-- The matrix that picks the even columns, as the region finds it. -/
theorem picker_apply (k : Fin 1024) (d : Fin 512) :
    V m c main_v7 (ix2 k d) = if k.val = 2 * d.val then (1 : EReal) else 0 := by
  entry_read
  pointwise
  have h2 : IntOp.muli 2#32 (BitVec.ofNat 32 d.val) = BitVec.ofNat 32 (2 * d.val) := by
    show 2#32 * BitVec.ofNat 32 d.val = _
    rw [BitVec.ofNat_mul]
  rw [h2, WordCmp.cmpi_eq_ofNat (lt_of_lt_of_le k.isLt (by decide)) (show 2 * d.val < 2 ^ 32 by have := d.isLt; omega)]
  by_cases h : k.val = 2 * d.val
  · rw [if_pos h]; simp [h]; show (((1#1 : BitVec 1).toNat : ℝ) : EReal) = 1; simp
  · rw [if_neg h]; simp [h]; show (((0#1 : BitVec 1).toNat : ℝ) : EReal) = 0; simp

/-- The window on it holds it whole. -/
theorem block7_apply (k : Fin 1024) (d : Fin 512) :
    iblk m c 7 t (ix2 k d) = if k.val = 2 * d.val then (1 : EReal) else 0 := by
  rw [← picker_apply m c k d]
  blk_ext [iblk, V, index_eq t]

end Cert.Proof

end
-- ==== Proof.KernelFold.lean ====
/- What the kernel's result array ends holding: the terms of all grid points added up. -/
module

public import proofs.«01_k».proof.Proof.KernelBlocks

@[expose] public section

set_option maxRecDepth 16384

noncomputable section

namespace Cert.Proof

open Idealize.ShloMosaic Idealize.ShloMosaic.TcCoe Idealize.SL.Sem Cert.KernelIdeal Cert.KernelIdeal.Gen

section Args

variable (x : Vec Ideal S32x1x2048 .f32) (rw : Vec Ideal S64x2048 .f32) (rb : Vec Ideal S64 .f32)
  (wg : Vec Ideal S64x2048x2048 .f32) (bg : Vec Ideal S64x2048 .f32) (wd : Vec Ideal S64x1024x2048 .f32) (bd : Vec Ideal S64x2048 .f32)

/-- The logits of the argument arrays. -/
def argLogits (b : Fin 32) : Fin 64 → EReal := logits (fun b h => x (ix3 b 0 h)) (fun e h => rw (ix2 e h)) (fun e => rb (ix1 e)) b

/-- A half expert's term of the argument arrays. -/
def argTerm (b : Fin 32) (e : Fin 64) (j : Fin 2) (o : Fin 2048) : EReal :=
  halfTerm (fun b h => x (ix3 b 0 h)) (fun e h => rw (ix2 e h)) (fun e => rb (ix1 e)) (fun e h k => wg (ix3 e h k))
    (fun e k => bg (ix2 e k)) (fun e d o => wd (ix3 e d o)) (fun e o => bd (ix2 e o)) b e j o

/-- The layer of the argument arrays. -/
def argLayer (b : Fin 32) (o : Fin 2048) : EReal :=
  layer (fun b h => x (ix3 b 0 h)) (fun e h => rw (ix2 e h)) (fun e => rb (ix1 e)) (fun e h k => wg (ix3 e h k))
    (fun e k => bg (ix2 e k)) (fun e d o => wd (ix3 e d o)) (fun e o => bd (ix2 e o)) b o

/-- A sum over the points is a sum over the experts of their two halves. -/
theorem sum_points (f : ℕ → EReal) (k : ℕ) : ∑ n ∈ Finset.range (2 * k), f n = ∑ e ∈ Finset.range k, (f (2 * e) + f (2 * e + 1)) := by
  induction k with
  | zero => rfl
  | succ k ih => rw [show 2 * (k + 1) = 2 * k + 1 + 1 by omega, Finset.sum_range_succ, Finset.sum_range_succ, ih, Finset.sum_range_succ, add_assoc]

/-- The expert of point number `n`. -/
def expertAt (n : ℕ) : Fin 64 := ⟨n / 2 % 64, Nat.mod_lt _ (by decide)⟩

/-- The half of point number `n`. -/
def halfAt (n : ℕ) : Fin 2 := ⟨n % 2, Nat.mod_lt _ (by decide)⟩

/-- All the points' terms make the layer. -/
theorem sum_argTerm (b : Fin 32) (o : Fin 2048) (hl : RealRow (argLogits x rw rb b)) :
    ∑ n ∈ Finset.range 128, argTerm x rw rb wg bg wd bd b (expertAt n) (halfAt n) o = argLayer x rw rb wg bg wd bd b o := by
  rw [show 128 = 2 * 64 from rfl, sum_points, Finset.sum_range]
  unfold argLayer layer
  refine Finset.sum_congr rfl fun e _ => ?_
  rw [show expertAt (2 * e.val) = e from Fin.ext (by show 2 * e.val / 2 % 64 = e.val; omega),
    show expertAt (2 * e.val + 1) = e from Fin.ext (by show (2 * e.val + 1) / 2 % 64 = e.val; omega),
    show halfAt (2 * e.val) = 0 from Fin.ext (by show 2 * e.val % 2 = 0; omega),
    show halfAt (2 * e.val + 1) = 1 from Fin.ext (by show (2 * e.val + 1) % 2 = 1; omega)]
  exact halfTerm_add _ _ _ _ _ _ _ b e o hl

end Args

variable (m : (ℓ : Loc nD τ sig) → Buf (Elt Ideal) ℓ) (c : Dev nD)

/-- The launched arguments' logits. -/
abbrev memLogits (b : Fin 32) : Fin 64 → EReal :=
  argLogits (m ((c : Thread nD τ).loc main_arg0)) (m ((c : Thread nD τ).loc main_arg1)) (m ((c : Thread nD τ).loc main_arg2)) b

/-- The launched arguments' terms. -/
abbrev memTerm (b : Fin 32) (e : Fin 64) (j : Fin 2) (o : Fin 2048) : EReal :=
  argTerm (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b e j o

/-- The logits a point's windows give are the arguments'. -/
theorem rowOf_pay3 (t : Fin cfg0.N) (b : Fin 32) :
    rowOf (k0_pay3 (iblk m c 0 t) (iblk m c 1 t) (iblk m c 2 t)) b = memLogits m c b := by
  funext e
  unfold rowOf
  rw [pay3_apply, block2_apply]
  unfold memLogits argLogits logits
  refine congrArg₂ _ (Finset.sum_congr rfl fun h _ => ?_) rfl
  rw [block0_apply, block1_apply]

/-- A point's block of the projection is the arguments' at the point's columns. -/
theorem blockProject_eq (t : Fin cfg0.N) (b : Fin 32) (k : Fin 1024) (k' : Fin 2048) (hk : k'.val = 1024 * (halfOf t).val + k.val) :
    blockProject (iblk m c 0 t) (iblk m c 3 t) (iblk m c 4 t) b k =
      project (fun b h => m ((c : Thread nD τ).loc main_arg0) (ix3 b 0 h)) (fun e h k => m ((c : Thread nD τ).loc main_arg3) (ix3 e h k))
        (fun e k => m ((c : Thread nD τ).loc main_arg4) (ix2 e k)) b (expertOf t) k' := by
  have hk' : (⟨1024 * (halfOf t).val + k.val, by have := (halfOf t).isLt; omega⟩ : Fin 2048) = k' := Fin.ext hk.symm
  unfold blockProject project
  rw [block4_apply, hk']
  refine congrArg₂ _ (Finset.sum_congr rfl fun h _ => ?_) rfl
  rw [block0_apply, block3_apply, hk']

/-- A point's term, at scores that are the arguments'. -/
theorem term_eq (t : Fin cfg0.N) (s : Vec Ideal S32x64 .f32) (hs : ∀ b e, s (ix2 b e) = score (memLogits m c b) e)
    (b : Fin 32) (o : Fin 2048) :
    k0_pay1 (BitVec.ofNat 32 (grid0.coords t 0).val) (BitVec.ofNat 32 (grid0.coords t 1).val)
      (k0_pay20 (iblk m c 0 t) (iblk m c 3 t) (iblk m c 4 t) (iblk m c 7 t)) (iblk m c 5 t) (iblk m c 6 t) s (ix2 b o) =
      memTerm m c b (expertAt t.val) (halfAt t.val) o := by
  have hN := lt_of_lt_of_eq t.isLt (show cfg0.N = 128 from N_0)
  have he : expertAt t.val = expertOf t := Fin.ext (by show t.val / 2 % 64 = t.val / 2; omega)
  have hj : halfAt t.val = halfOf t := rfl
  rw [(coords_eq t).1, (coords_eq t).2, he, hj]
  refine (pay1_apply (expertOf t) (halfOf t) _ _ _ _ b o).trans ?_
  rw [hs, block6_apply]
  unfold memTerm argTerm halfTerm
  refine congrArg₂ _ (congrArg₂ _ (Finset.sum_congr rfl fun d _ => ?_) rfl) rfl
  rw [block5_apply, pay20_apply _ _ _ _ (block7_apply m c t)]
  unfold hidden
  rw [blockProject_eq m c t b _ (evenCol (unitOf (halfOf t) d)) (by simp only [evenCol, unitOf]; omega),
    blockProject_eq m c t b _ (oddCol (unitOf (halfOf t) d)) (by simp only [oddCol, unitOf]; omega)]

/-- The scores stored at the first point are the arguments'. -/
theorem stored_eq (t : Fin cfg0.N) (hl : ∀ b, RealRow (memLogits m c b)) (b : Fin 32) (e : Fin 64) :
    scoreBlock (k0_pay3 (iblk m c 0 t) (iblk m c 1 t) (iblk m c 2 t)) (ix2 b e) = score (memLogits m c b) e := by
  rw [scoreBlock_apply _ _ _ (by rw [rowOf_pay3]; exact hl b), rowOf_pay3]

/-- After every point the scratch holds the scores, and the result the terms so far. -/
theorem outs_eq (hl : ∀ b, RealRow (memLogits m c b)) (n : ℕ) (hn : n < cfg0.N) :
    (∀ b e, (outsAt0 m c n hn).2 (ix2 b e) = score (memLogits m c b) e) ∧
    ∀ b o, (outsAt0 m c n hn).1 (ix2 b o) = ∑ k ∈ Finset.range (n + 1), memTerm m c b (expertAt k) (halfAt k) o := by
  have hN : cfg0.N = 128 := N_0
  induction n with
  | zero =>
    have e := outsAt0_A m c ⟨0, hn⟩ (Nat.zero_mod _) (Nat.zero_mod _) (Nat.not_succ_le_zero 0)
    rw [show outsAt0 m c 0 hn = _ from e]
    dsimp only
    rw [scratch_first, out_first]
    refine ⟨stored_eq m c ⟨0, hn⟩ hl, fun b o => ?_⟩
    rw [term_eq m c ⟨0, hn⟩ _ (stored_eq m c ⟨0, hn⟩ hl), zero_add, Finset.sum_range_one]
  | succ n ih =>
    obtain ⟨ihs, iho⟩ := ih (Nat.lt_of_succ_lt hn)
    have hB : ¬(⟨n + 1, hn⟩ : Fin cfg0.N).val % 128 = 0 := by dsimp only; omega
    have e := outsAt0_B m c ⟨n + 1, hn⟩ hB hB (Nat.succ_le_succ (Nat.zero_le n))
    rw [show outsAt0 m c (n + 1) hn = _ from e]
    dsimp only
    rw [out_later]
    refine ⟨ihs, fun b o => ?_⟩
    rw [pay2_apply, Finset.sum_range_succ, ← iho]
    exact congrArg₂ _ rfl (term_eq m c ⟨n + 1, hn⟩ _ ihs b o)

/-- The result array: the layer of the arguments. -/
theorem result_apply (hl : ∀ b, RealRow (memLogits m c b)) (b : Fin 32) (o : Fin 2048) :
    Cert.KernelIdeal.Value.G8 m c (ix2 b o) =
      argLayer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) b o := by
  have hn : 127 < cfg0.N := lt_of_lt_of_eq (by decide) N_0.symm
  rw [Cert.KernelIdeal.Value.G8_last, ← Cert.KernelIdeal.Value.outsAt0_sweep m c 127 hn, (outs_eq m c hl 127 hn).2]
  exact sum_argTerm _ _ _ _ _ _ _ b o (hl b)

end Cert.Proof

end
-- ==== Proof.Finite.lean ====
/- Finite tokens, router weights and router biases make real logits. -/
module

public import proofs.«01_k».proof.Proof.Gen.Pre_router_finite
public import proofs.«01_k».proof.Proof.KernelFold

@[expose] public section

set_option maxRecDepth 16384

noncomputable section

namespace Cert.Proof

open Idealize.ShloMosaic Idealize.ShloMosaic.TcCoe Idealize.SL.Sem Cert.Pre_router_finite

/-- The word of infinity is infinity. -/
theorem ofBits_inf : Ideal.ofBits .f32 0x7F800000#32 = ⊤ := by
  simp [Ideal.ofBits, Ideal.ieee]

/-- A value whose absolute value is below infinity is real. -/
theorem real_of_abs (v : EReal) (h : BitVec.ofBool (decide (max v (-v) < ⊤)) = 1#1) : ∃ r : ℝ, v = (r : EReal) := by
  induction v using EReal.rec with
  | bot => simp at h
  | coe r => exact ⟨r, rfl⟩
  | top => simp at h

/-- A sum of products of reals plus a real is real. -/
theorem real_logit (f g : Fin 2048 → EReal) (a : EReal) (hf : ∀ h, ∃ r : ℝ, f h = (r : EReal)) (hg : ∀ h, ∃ r : ℝ, g h = (r : EReal))
    (ha : ∃ r : ℝ, a = (r : EReal)) : ∃ r : ℝ, (∑ h, f h * g h) + a = (r : EReal) := by
  obtain ⟨a', rfl⟩ := ha
  obtain ⟨s, hs⟩ := Finset.sum_induction (s := Finset.univ) (fun h => f h * g h) (fun v => ∃ r : ℝ, v = (r : EReal))
    (fun u v ⟨r, hr⟩ ⟨q, hq⟩ => ⟨r + q, by rw [hr, hq, EReal.coe_add]⟩) ⟨0, EReal.coe_zero.symm⟩ fun h _ => by
      obtain ⟨r, hr⟩ := hf h
      obtain ⟨q, hq⟩ := hg h
      exact ⟨r * q, by rw [hr, hq, EReal.coe_mul]⟩
  exact ⟨s + a', by rw [hs, EReal.coe_add]⟩

/-- Under the precondition every row of logits is real. -/
theorem real_rows (x : Vec Ideal S32x1x2048 .f32) (rw : Vec Ideal S64x2048 .f32) (rb : Vec Ideal S64 .f32)
    (wg : Vec Ideal S64x2048x2048 .f32) (bg : Vec Ideal S64x2048 .f32) (wd : Vec Ideal S64x1024x2048 .f32) (bd : Vec Ideal S64x2048 .f32)
    (h0 : (Cert.Pre_router_finite.fn (F := Ideal) x rw rb wg bg wd bd).1 = fun _ => 1#1)
    (h1 : (Cert.Pre_router_finite.fn (F := Ideal) x rw rb wg bg wd bd).2.1 = fun _ => 1#1)
    (h2 : (Cert.Pre_router_finite.fn (F := Ideal) x rw rb wg bg wd bd).2.2 = fun _ => 1#1) (b : Fin 32) : RealRow (argLogits x rw rb b) := by
  have hx : ∀ h, ∃ r : ℝ, x (ix3 b 0 h) = (r : EReal) := fun h => real_of_abs _ (by
    have q := congrFun h0 (ix3 b 0 h)
    rw [← ofBits_inf]
    exact q)
  have hw : ∀ e h, ∃ r : ℝ, rw (ix2 e h) = (r : EReal) := fun e h => real_of_abs _ (by
    have q := congrFun h1 (ix2 e h)
    rw [← ofBits_inf]
    exact q)
  have hb : ∀ e, ∃ r : ℝ, rb (ix1 e) = (r : EReal) := fun e => real_of_abs _ (by
    have q := congrFun h2 (ix1 e)
    rw [← ofBits_inf]
    exact q)
  have hl : ∀ e, ∃ r : ℝ, argLogits x rw rb b e = (r : EReal) := fun e => real_logit _ _ _ hx (hw e) (hb e)
  choose f hf using hl
  exact ⟨f, hf⟩

end Cert.Proof
-- ==== Proof.ReferenceExperts.lean ====
/- What the reference's logits and experts are, entry by entry. -/
module

public import proofs.«01_k».proof.Proof.Gen.ReferenceIdeal.Read
public import proofs.«01_k».proof.Proof.KernelFold

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Read

variable (x : Vec Ideal S32x1x2048 .f32) (rw : Vec Ideal S64x2048 .f32) (rb : Vec Ideal S64 .f32)
  (wg : Vec Ideal S64x2048x2048 .f32) (bg : Vec Ideal S64x2048 .f32) (wd : Vec Ideal S64x1024x2048 .f32) (bd : Vec Ideal S64x2048 .f32)

/-- The reference's flattened tokens. -/
theorem ref_tokens (b : Fin 32) (h : Fin 2048) : val_main_v0 (F := Ideal) x (ix2 b h) = x (ix3 b 0 h) := by
  pointwise [val_main_v0]

/-- The reference's logits. -/
theorem ref_logits (b : Fin 32) (e : Fin 64) : val_main_v5 (F := Ideal) x rw rb (ix2 b e) = argLogits x rw rb b e := by
  pointwise [val_main_v5, val_main_v4, val_main_v3, val_main_v2, val_main_v1, ref_tokens, argLogits, logits]

/-- The reference's two projections, columns as the array has them. -/
theorem ref_project (e : Fin 64) (b : Fin 32) (k : Fin 2048) : val_main_v40 (F := Ideal) x wg bg (ix3 e b k)
    = project (fun b h => x (ix3 b 0 h)) (fun e h k => wg (ix3 e h k)) (fun e k => bg (ix2 e k)) b e k := by
  pointwise [val_main_v40, val_main_v39, val_main_v38, val_main_v37, val_main_v36, val_main_v35, ref_tokens, project]

/-- The reference's hidden units. -/
theorem ref_hidden (e : Fin 64) (b : Fin 32) (d : Fin 1024) : val_main_v57 (F := Ideal) x wg bg (ix3 e b d)
    = hidden (fun b h => x (ix3 b 0 h)) (fun e h k => wg (ix3 e h k)) (fun e k => bg (ix2 e k)) b e d := by
  pointwise [val_main_v57, val_main_v56, val_main_v55, val_main_cst_12, val_main_v54, val_main_v53, val_main_v52, val_main_cst_11,
    val_main_v51, val_main_v50, val_main_cst_10, val_main_v49, val_main_v48, val_main_v47, val_main_v46, val_main_cst_9, val_main_v45,
    val_main_call0_v4, val_main_call0_v3, val_main_cst_8, val_main_call0_v2, val_main_call0_v1, val_main_call0_v0, val_main_cst_7,
    val_main_v44, val_main_v43, val_main_cst_6, val_main_v42, val_main_v41, ref_project]
  unfold hidden
  rw [mul_comm]
  refine congrArg₂ _ rfl ?_
  rw [show (⟨1 + 2 * d.val, by omega⟩ : Fin 2048) = oddCol d from Fin.ext (Nat.add_comm 1 (2 * d.val))]
  rfl

/-- The reference's expert outputs. -/
theorem ref_expert (e : Fin 64) (b : Fin 32) (o : Fin 2048) : val_main_v61 (F := Ideal) x wg bg wd bd (ix3 e b o)
    = expertOut (fun b h => x (ix3 b 0 h)) (fun e h k => wg (ix3 e h k)) (fun e k => bg (ix2 e k)) (fun e d o => wd (ix3 e d o))
      (fun e o => bd (ix2 e o)) b e o := by
  pointwise [val_main_v61, val_main_v60, val_main_v59, val_main_v58, ref_hidden, expertOut]

end Cert.Proof
-- ==== Proof.ReferenceScore.lean ====
/- What the reference's routing scores are: the softmax of the eight greatest logits, set down at their experts. -/
module

public import proofs.«01_k».proof.Proof.ReferenceExperts
public import Idealize.ShloMosaic.Lib.ScatterToDense.RefScatter
public import Idealize.ShloMosaic.Lib.Pointwise.IndexBridge

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Read

variable (x : Vec Ideal S32x1x2048 .f32) (rw : Vec Ideal S64x2048 .f32) (rb : Vec Ideal S64 .f32)

/-- The place the sort of a row of logits puts at slot `i` is the `i`-th picked one. -/
theorem sorted_place (y : Vec Ideal S32x64 .f32) (l : Fin 64 → EReal) (b : Fin 32) (hy : ∀ e, y (ix2 b e) = l e) (hl : ∀ e, ⊥ < l e)
    (i : Fin 8) : sortedFrom (fun k k' : Fin 64 => FloatOps.cmpfTotal (F := Ideal) (φ := .f32) .gt (y (ix2 b k)) (y (ix2 b k')) == 1#1)
      (i.castLE (by decide)) = picked l i := by
  refine sortedFrom_eq_picked l hl _ (fun a c => ?_) i
  rw [hy, hy]
  show (BitVec.ofBool (decide (l c < l a)) == 1#1) = _
  cases decide (l c < l a) <;> rfl

/-- A column of a row named by its place along the columns. -/
theorem along_col (b : Fin 32) (q : Fin 64) (k : Fin 64) : Shape.Idx.along (s := S32x64) (ix2 b q) 1 k = ix2 b k := by
  funext a
  match a with
  | ⟨0, _⟩ => rfl
  | ⟨1, _⟩ => rfl

/-- The reference's top values. -/
theorem ref_values (b : Fin 32) (i : Fin 8) (hl : RealRow (argLogits x rw rb b)) :
    val_main_values (F := Ideal) x rw rb (ix2 b i) = argLogits x rw rb b (picked (argLogits x rw rb b) i) := by
  refine Eq.trans ?_ (ref_logits x rw rb b _)
  unfold val_main_values Host.topK Host.sort2
  pointwise
  simp only [along_col]
  exact congrArg (fun k => val_main_v5 (F := Ideal) x rw rb (ix2 b k)) (sorted_place _ _ b (ref_logits x rw rb b) hl.bot_lt i)

/-- The reference's top experts. -/
theorem ref_indices (b : Fin 32) (i : Fin 8) (hl : RealRow (argLogits x rw rb b)) :
    val_main_indices (F := Ideal) x rw rb (ix2 b i) = BitVec.ofNat 32 (picked (argLogits x rw rb b) i).val := by
  unfold val_main_indices Host.topK Host.sort2
  pointwise
  simp only [along_col]
  exact congrArg (fun k : Fin 64 => BitVec.ofNat 32 k.val) (sorted_place _ _ b (ref_logits x rw rb b) hl.bot_lt i)

/-- The reference's greatest logit. -/
theorem ref_peak (b : Fin 32) (hl : RealRow (argLogits x rw rb b)) :
    val_main_v8 (F := Ideal) x rw rb (ix1 b) = peak (argLogits x rw rb b) := by
  pointwise [val_main_v8, val_main_v7, val_main_cst_0, val_main_v6, val_main_cst]
  rw [ofBits_neg_inf, max_eq_right bot_le]
  simp only [ref_values x rw rb b _ hl]
  exact fold_picked _

/-- The reference's weights. -/
theorem ref_weight (b : Fin 32) (i : Fin 8) (hl : RealRow (argLogits x rw rb b)) :
    val_main_v12 (F := Ideal) x rw rb (ix2 b i) = weight (argLogits x rw rb b) (picked (argLogits x rw rb b) i) := by
  pointwise [val_main_v12, val_main_v11, val_main_v10, val_main_v9, weight]
  rw [ref_peak x rw rb b hl, ref_values x rw rb b i hl]

/-- The reference's softmax. -/
theorem ref_softmax (b : Fin 32) (i : Fin 8) (hl : RealRow (argLogits x rw rb b)) :
    val_main_v16 (F := Ideal) x rw rb (ix2 b i)
      = Ideal.div (weight (argLogits x rw rb b) (picked (argLogits x rw rb b) i)) (total (argLogits x rw rb b)) := by
  pointwise [val_main_v16, val_main_v15, val_main_v14, val_main_v13, val_main_cst_1, total]
  simp only [ref_weight x rw rb b _ hl]

/-- A small word is kept by the redirect of negative ones. -/
theorem keep_word (n : ℕ) (hn : n < 64) (a : BitVec 32) :
    Scalar.select (IntOp.cmpi .slt (BitVec.ofNat 32 n) 0#32) a (BitVec.ofNat 32 n) = BitVec.ofNat 32 n := by
  rw [WordCmp.cmpi_slt_zero, WordCmp.select_decide, if_neg]
  rw [BitVec.toNat_ofNat]
  omega

/-- The row words the scatter is handed. -/
theorem ref_rows (b : Fin 32) (i : Fin 8) : val_main_v33 (F := Ideal) x rw rb (ix3 b i 0) = BitVec.ofNat 32 b.val := by
  pointwise [val_main_v33, val_main_v31, val_main_v30, val_main_v24, val_main_v23, val_main_v22, val_main_c_3, val_main_v21, val_main_v20,
    val_main_c, val_main_v19, val_main_v18]
  exact keep_word b.val (by omega) _

/-- The column words the scatter is handed. -/
theorem ref_cols (b : Fin 32) (i : Fin 8) (hl : RealRow (argLogits x rw rb b)) :
    val_main_v33 (F := Ideal) x rw rb (ix3 b i 1) = BitVec.ofNat 32 (picked (argLogits x rw rb b) i).val := by
  pointwise [val_main_v33, val_main_v32, val_main_v29, val_main_v28, val_main_v27, val_main_c_5, val_main_v26, val_main_v25, val_main_c_4]
  rw [ref_indices x rw rb b i hl]
  exact keep_word _ (by omega) _

/-- Setting down, one after another, values that go with their places leaves at a place its value if it was hit, and else what stood. -/
theorem set_down (p : ℕ → Fin 64) (V : Fin 64 → EReal) (fill : EReal) (e : Fin 64) (n : ℕ) :
    ScatterToDense.GS (fun k => BitVec.ofNat 32 (p k).val) (fun k => V (p k)) fill e.val n = if ∃ k < n, p k = e then V e else fill := by
  induction n with
  | zero => simp [ScatterToDense.GS_zero]
  | succ n ih =>
    have hw : (BitVec.ofNat 32 (p n).val).toNat = (p n).val := by
      rw [BitVec.toNat_ofNat]
      omega
    rw [ScatterToDense.GS_succ, ih, hw]
    by_cases h : p n = e
    · rw [if_pos (congrArg Fin.val h.symm), if_pos ⟨n, Nat.lt_succ_self n, h⟩, h]
    · rw [if_neg fun q => h (Fin.ext q.symm)]
      refine if_congr ⟨fun ⟨k, hk, q⟩ => ⟨k, Nat.lt_succ_of_lt hk, q⟩, fun ⟨k, hk, q⟩ => ⟨k, ?_, q⟩⟩ rfl rfl
      exact Nat.lt_of_le_of_ne (Nat.le_of_lt_succ hk) fun q' => h (q' ▸ q)

/-- The reference's scores. -/
theorem ref_scores (hl : ∀ b, RealRow (argLogits x rw rb b)) (b : Fin 32) (e : Fin 64) :
    val_main_v34 (F := Ideal) x rw rb (ix2 b e) = score (argLogits x rw rb b) e := by
  unfold val_main_v34
  rw [ix2_eq_valueIdx]
  refine (ScatterToDense.scatter_eq_GS scatter_S32x64_S32x8x2_S32x8_n_01_01_2 rfl rfl rfl (by decide) (by decide) _ _ _
    (fun b k => BitVec.ofNat 32 (picked (argLogits x rw rb b) k).val)
    (fun b k => Ideal.div (weight (argLogits x rw rb b) (picked (argLogits x rw rb b) k)) (total (argLogits x rw rb b)))
    (fun b i => ?_) (fun b i => ?_) (fun b i => ?_) b e).trans ?_
  · rw [← ix3_eq_valueIdx]; exact ref_rows x rw rb b i
  · rw [← ix3_eq_valueIdx]; exact ref_cols x rw rb b i (hl b)
  · rw [← ix2_eq_valueIdx]; exact ref_softmax x rw rb b i (hl b)
  · rw [set_down (picked (argLogits x rw rb b)) (fun e => Ideal.div (weight (argLogits x rw rb b) e) (total (argLogits x rw rb b)))]
    have h0 : val_main_v17 (F := Ideal) (ix2 b e) = 0 := by pointwise [val_main_v17, val_main_cst_2]
    unfold score
    exact if_congr (Q := Chosen (argLogits x rw rb b) e) ⟨fun ⟨k, hk, q⟩ => ⟨⟨k, hk⟩, q⟩, fun ⟨i, q⟩ => ⟨i.val, i.isLt, q⟩⟩ rfl h0

end Cert.Proof
-- ==== Proof.ReferenceValue.lean ====
/- What the reference's result holds: the layer of the arguments. -/
module

public import proofs.«01_k».proof.Proof.ReferenceScore

@[expose] public section

set_option maxRecDepth 16384

noncomputable section

namespace Cert.Proof

open Idealize.ShloMosaic Idealize.ShloMosaic.TcCoe Idealize.SL.Sem Cert.ReferenceIdeal Cert.ReferenceIdeal.Gen Cert.ReferenceIdeal.Read

variable (x : Vec Ideal S32x1x2048 .f32) (rw : Vec Ideal S64x2048 .f32) (rb : Vec Ideal S64 .f32)
  (wg : Vec Ideal S64x2048x2048 .f32) (bg : Vec Ideal S64x2048 .f32) (wd : Vec Ideal S64x1024x2048 .f32) (bd : Vec Ideal S64x2048 .f32)

/-- The reference's result, the logits being real. -/
theorem ref_result (hl : ∀ b, RealRow (argLogits x rw rb b)) (b : Fin 32) (o : Fin 2048) :
    val_main_v69 (F := Ideal) x rw rb wg bg wd bd (ix2 b o) = argLayer x rw rb wg bg wd bd b o := by
  pointwise [val_main_v69, val_main_v68, val_main_cst_13, val_main_v67, val_main_v66, val_main_v65, val_main_v64, val_main_v63, val_main_v62,
    ref_expert, argLayer, layer]
  simp only [ref_scores x rw rb hl]
  rfl

end Cert.Proof
-- ==== Proof.Equation.lean ====
/- The kernel's result and the reference's are the same array. -/
module

public import proofs.«01_k».proof.Defs
public import proofs.«01_k».proof.Proof.Finite
public import proofs.«01_k».proof.Proof.ReferenceValue

@[expose] public section

set_option maxRecDepth 16384

noncomputable section

namespace Cert.Proof

open Idealize.ShloMosaic Idealize.ShloMosaic.TcCoe Idealize.SL.Sem

/-- Under the precondition every token's logits are real. -/
theorem memory_rows (m : (ℓ : Loc Cert.KernelIdeal.nD Cert.KernelIdeal.τ Cert.KernelIdeal.sig) → Buf (Elt Ideal) ℓ)
    (hpre : Cert.Pre_KernelIdeal_router_finite m) (c : Dev Cert.KernelIdeal.nD) (b : Fin 32) : RealRow (memLogits m c b) :=
  real_rows _ _ _ _ _ _ _ (hpre c).1 (hpre c).2.1 (hpre c).2.2 b

/-- The reference's result of the kernel's arguments is the kernel's result. -/
theorem results_agree (m : (ℓ : Loc Cert.KernelIdeal.nD Cert.KernelIdeal.τ Cert.KernelIdeal.sig) → Buf (Elt Ideal) ℓ)
    (hpre : Cert.Pre_KernelIdeal_router_finite m) (c : Dev Cert.KernelIdeal.nD) :
    Cert.ReferenceIdeal.Read.val_main_v69 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      = Cert.KernelIdeal.Value.G8 m c := by
  funext ι
  obtain ⟨b, o, rfl⟩ : ∃ (b : Fin 32) (o : Fin 2048), ι = ix2 b o := ⟨ι 0, ι 1, funext fun a => match a with
    | ⟨0, _⟩ => rfl
    | ⟨1, _⟩ => rfl⟩
  rw [result_apply m c (memory_rows m hpre c) b o]
  exact ref_result _ _ _ _ _ _ _ (memory_rows m hpre c) b o

end Cert.Proof
-- ==== Proof.lean ====
/- The claims about the mixture of experts, put together: the frames, the named constant, and the equation of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Pre_router_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem

/-- The reference runs, keeps its arguments and leaves every counter at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From finite router arguments the kernel and the reference end with the same array. -/
theorem same_result : Cert.algebraic_KernelIdeal_ReferenceIdeal_pre_router_finite := fun m ρ m' ρ' hpre hag =>
  ⟨fun c => Cert.KernelIdeal.Value.G8 m c, Cert.KernelIdeal.Value.run m ρ,
    (θ_run Cert.ReferenceIdeal.defs _ _).mono (fun r h c => ⟨by
      obtain ⟨a0, a1, a2, a3, a4, a5, a6⟩ := hag c
      refine (h c).1.trans ?_
      rw [Cert.ReferenceIdeal.Read.val_main_v69_eq, a0, a1, a2, a3, a4, a5, a6]
      exact results_agree m hpre c, (h c).2⟩) (Cert.ReferenceIdeal.Value.run (F := Ideal) m' ρ')⟩

/-- The named minus infinity is the kernel's mask constant. -/
theorem named_mask : Cert.preserves_Kernel_KernelIdeal :=
  IdealRules.named_const.statement Cert.KernelIdeal.κ "mask" .f32 0xF149F2CA#32 ⊥ rfl

/-- Everything the certificate claims. -/
theorem claim : Cert.Claim :=
  ⟨Cert.Kernel.Gen.facts, Cert.KernelIdeal.Gen.facts, Cert.ReferenceIdeal.Gen.facts, Cert.Pre_router_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, named_mask, same_result⟩

end Cert.Proof

end
